-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x8192 : Shape := ⟨2, ![4096, 8192]⟩
abbrev S1 : Shape := ⟨1, ![1]⟩
abbrev S4096x512 : Shape := ⟨2, ![4096, 512]⟩
abbrev S2x4096x512 : Shape := ⟨3, ![2, 4096, 512]⟩
abbrev S16x256x512 : Shape := ⟨3, ![16, 256, 512]⟩
abbrev S2 : Shape := ⟨1, ![2]⟩
abbrev S16 : Shape := ⟨1, ![16]⟩
abbrev S_ : Shape := ⟨0, ![]⟩
abbrev S1x4096x512 : Shape := ⟨3, ![1, 4096, 512]⟩
abbrev S256x512 : Shape := ⟨2, ![256, 512]⟩
abbrev S1x256x512 : Shape := ⟨3, ![1, 256, 512]⟩

abbrev nBuf : Space → Nat
  | .hbm => 5
  | .vmem => 6
  | .smem => 2
  | _ => 0

abbrev bufTy : (tb : Table) → Fin (tcTables nBuf tb) → BufTy
  | .hbm, ⟨0, _⟩ => ⟨S256x4096, .fp8e4m3⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x512, .f32⟩
  | .local _ .vmem, ⟨0, _⟩ => ⟨S256x4096, .fp8e4m3⟩
  | .local _ .vmem, ⟨1, _⟩ => ⟨S4096x512, .f32⟩
  | .local _ .vmem, ⟨2, _⟩ => ⟨S256x4096, .bf16⟩
  | .local _ .vmem, ⟨3, _⟩ => ⟨S2x4096x512, .f32⟩
  | .local _ .vmem, ⟨4, _⟩ => ⟨S16x256x512, .bf16⟩
  | .local _ .vmem, ⟨5, _⟩ => ⟨S16x256x512, .bf16⟩
  | .local _ .smem, ⟨0, _⟩ => ⟨S1, .f32⟩
  | .local _ .smem, ⟨1, _⟩ => ⟨S1, .f32⟩
  | _, _ => ⟨S256x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c0_i32_66 : BitVec 32) : Fin 2 → Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v73 : BitVec 32 := Scalar.addi v2 c0_i32_66
  let c16_i32_67 : BitVec 32 := 16#32
  let v74 : BitVec 32 := Scalar.remsi v73 c16_i32_67
  let c512_i32 : BitVec 32 := 512#32
  let v75 : BitVec 32 := Scalar.muli v74 c512_i32
  ![0, v75.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v106 : BitVec 32 := Scalar.muli v2 c256_i32
  let v107 : Index := Scalar.indexCast v106
  let c0_95 : Index := 0#32
  ![v107.toNat, 0]
def k0_dev16 (d0 : Dev nD) : Nat :=
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_121 : BitVec 32 := 1#32
  let v138 : BitVec 32 := Scalar.addi v2 c1_i32_121
  let c16_i32_122 : BitVec 32 := 16#32
  let v139 : BitVec 32 := Scalar.remsi v138 c16_i32_122
  let c1_i32_127 : BitVec 32 := 1#32
  let v140 : BitVec 32 := Scalar.muli v139 c1_i32_127
  let v141 : BitVec 32 := Scalar.addi c0_i32_128 v140
  v141.toNat
def k0_dev17 (d0 : Dev nD) : Nat :=
  let c0_i32_165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_158 : BitVec 32 := 2#32
  let v179 : BitVec 32 := Scalar.addi v2 c2_i32_158
  let c16_i32_159 : BitVec 32 := 16#32
  let v180 : BitVec 32 := Scalar.remsi v179 c16_i32_159
  let c1_i32_164 : BitVec 32 := 1#32
  let v181 : BitVec 32 := Scalar.muli v180 c1_i32_164
  let v182 : BitVec 32 := Scalar.addi c0_i32_165 v181
  v182.toNat
def k0_dev18 (d0 : Dev nD) : Nat :=
  let c0_i32_202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_195 : BitVec 32 := 3#32
  let v220 : BitVec 32 := Scalar.addi v2 c3_i32_195
  let c16_i32_196 : BitVec 32 := 16#32
  let v221 : BitVec 32 := Scalar.remsi v220 c16_i32_196
  let c1_i32_201 : BitVec 32 := 1#32
  let v222 : BitVec 32 := Scalar.muli v221 c1_i32_201
  let v223 : BitVec 32 := Scalar.addi c0_i32_202 v222
  v223.toNat
def k0_dev19 (d0 : Dev nD) : Nat :=
  let c0_i32_239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_232 : BitVec 32 := 4#32
  let v261 : BitVec 32 := Scalar.addi v2 c4_i32_232
  let c16_i32_233 : BitVec 32 := 16#32
  let v262 : BitVec 32 := Scalar.remsi v261 c16_i32_233
  let c1_i32_238 : BitVec 32 := 1#32
  let v263 : BitVec 32 := Scalar.muli v262 c1_i32_238
  let v264 : BitVec 32 := Scalar.addi c0_i32_239 v263
  v264.toNat
def k0_dev20 (d0 : Dev nD) : Nat :=
  let c0_i32_276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_269 : BitVec 32 := 5#32
  let v302 : BitVec 32 := Scalar.addi v2 c5_i32_269
  let c16_i32_270 : BitVec 32 := 16#32
  let v303 : BitVec 32 := Scalar.remsi v302 c16_i32_270
  let c1_i32_275 : BitVec 32 := 1#32
  let v304 : BitVec 32 := Scalar.muli v303 c1_i32_275
  let v305 : BitVec 32 := Scalar.addi c0_i32_276 v304
  v305.toNat
def k0_dev21 (d0 : Dev nD) : Nat :=
  let c0_i32_313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_306 : BitVec 32 := 6#32
  let v343 : BitVec 32 := Scalar.addi v2 c6_i32_306
  let c16_i32_307 : BitVec 32 := 16#32
  let v344 : BitVec 32 := Scalar.remsi v343 c16_i32_307
  let c1_i32_312 : BitVec 32 := 1#32
  let v345 : BitVec 32 := Scalar.muli v344 c1_i32_312
  let v346 : BitVec 32 := Scalar.addi c0_i32_313 v345
  v346.toNat
def k0_dev22 (d0 : Dev nD) : Nat :=
  let c0_i32_350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_343 : BitVec 32 := 7#32
  let v384 : BitVec 32 := Scalar.addi v2 c7_i32_343
  let c16_i32_344 : BitVec 32 := 16#32
  let v385 : BitVec 32 := Scalar.remsi v384 c16_i32_344
  let c1_i32_349 : BitVec 32 := 1#32
  let v386 : BitVec 32 := Scalar.muli v385 c1_i32_349
  let v387 : BitVec 32 := Scalar.addi c0_i32_350 v386
  v387.toNat
def k0_dev23 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_380 : BitVec 32 := 8#32
  let v425 : BitVec 32 := Scalar.addi v2 c8_i32_380
  let c16_i32_381 : BitVec 32 := 16#32
  let v426 : BitVec 32 := Scalar.remsi v425 c16_i32_381
  let c1_i32_386 : BitVec 32 := 1#32
  let v427 : BitVec 32 := Scalar.muli v426 c1_i32_386
  let v428 : BitVec 32 := Scalar.addi c0_i32_387 v427
  v428.toNat
def k0_dev24 (d0 : Dev nD) : Nat :=
  let c0_i32_424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_417 : BitVec 32 := 9#32
  let v466 : BitVec 32 := Scalar.addi v2 c9_i32_417
  let c16_i32_418 : BitVec 32 := 16#32
  let v467 : BitVec 32 := Scalar.remsi v466 c16_i32_418
  let c1_i32_423 : BitVec 32 := 1#32
  let v468 : BitVec 32 := Scalar.muli v467 c1_i32_423
  let v469 : BitVec 32 := Scalar.addi c0_i32_424 v468
  v469.toNat
def k0_dev25 (d0 : Dev nD) : Nat :=
  let c0_i32_461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_454 : BitVec 32 := 10#32
  let v507 : BitVec 32 := Scalar.addi v2 c10_i32_454
  let c16_i32_455 : BitVec 32 := 16#32
  let v508 : BitVec 32 := Scalar.remsi v507 c16_i32_455
  let c1_i32_460 : BitVec 32 := 1#32
  let v509 : BitVec 32 := Scalar.muli v508 c1_i32_460
  let v510 : BitVec 32 := Scalar.addi c0_i32_461 v509
  v510.toNat
def k0_dev26 (d0 : Dev nD) : Nat :=
  let c0_i32_498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_491 : BitVec 32 := 11#32
  let v548 : BitVec 32 := Scalar.addi v2 c11_i32_491
  let c16_i32_492 : BitVec 32 := 16#32
  let v549 : BitVec 32 := Scalar.remsi v548 c16_i32_492
  let c1_i32_497 : BitVec 32 := 1#32
  let v550 : BitVec 32 := Scalar.muli v549 c1_i32_497
  let v551 : BitVec 32 := Scalar.addi c0_i32_498 v550
  v551.toNat
def k0_dev27 (d0 : Dev nD) : Nat :=
  let c0_i32_535 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_528 : BitVec 32 := 12#32
  let v589 : BitVec 32 := Scalar.addi v2 c12_i32_528
  let c16_i32_529 : BitVec 32 := 16#32
  let v590 : BitVec 32 := Scalar.remsi v589 c16_i32_529
  let c1_i32_534 : BitVec 32 := 1#32
  let v591 : BitVec 32 := Scalar.muli v590 c1_i32_534
  let v592 : BitVec 32 := Scalar.addi c0_i32_535 v591
  v592.toNat
def k0_dev28 (d0 : Dev nD) : Nat :=
  let c0_i32_572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_565 : BitVec 32 := 13#32
  let v630 : BitVec 32 := Scalar.addi v2 c13_i32_565
  let c16_i32_566 : BitVec 32 := 16#32
  let v631 : BitVec 32 := Scalar.remsi v630 c16_i32_566
  let c1_i32_571 : BitVec 32 := 1#32
  let v632 : BitVec 32 := Scalar.muli v631 c1_i32_571
  let v633 : BitVec 32 := Scalar.addi c0_i32_572 v632
  v633.toNat
def k0_dev29 (d0 : Dev nD) : Nat :=
  let c0_i32_609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_602 : BitVec 32 := 14#32
  let v671 : BitVec 32 := Scalar.addi v2 c14_i32_602
  let c16_i32_603 : BitVec 32 := 16#32
  let v672 : BitVec 32 := Scalar.remsi v671 c16_i32_603
  let c1_i32_608 : BitVec 32 := 1#32
  let v673 : BitVec 32 := Scalar.muli v672 c1_i32_608
  let v674 : BitVec 32 := Scalar.addi c0_i32_609 v673
  v674.toNat
def k0_dev30 (d0 : Dev nD) : Nat :=
  let c0_i32_638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_631 : BitVec 32 := 15#32
  let v704 : BitVec 32 := Scalar.addi v2 c15_i32_631
  let c16_i32_632 : BitVec 32 := 16#32
  let v705 : BitVec 32 := Scalar.remsi v704 c16_i32_632
  let c1_i32_637 : BitVec 32 := 1#32
  let v706 : BitVec 32 := Scalar.muli v705 c1_i32_637
  let v707 : BitVec 32 := Scalar.addi c0_i32_638 v706
  v707.toNat
def k0_off3 (d0 : Dev nD) (c15_i32_643 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v716 : BitVec 32 := Scalar.addi v2 c15_i32_643
  let c16_i32_644 : BitVec 32 := 16#32
  let v717 : BitVec 32 := Scalar.remsi v716 c16_i32_644
  let c256_i32_660 : BitVec 32 := 256#32
  let v731 : BitVec 32 := Scalar.muli v717 c256_i32_660
  let v732 : Index := Scalar.indexCast v731
  let c0_661 : Index := 0#32
  ![v732.toNat, 0]
abbrev stage0_0 : Fin 1 → Memref sig .tc .vmem S256x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .f32⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelIdeal.Prog.lean ====
/-
The kernel's body as loops: the program a device runs, written once over the step number.

Device `c` of 16 holds 256 rows of `x` and all of `w`. It copies `w`'s column blocks one after the other into the
two slots of a scratch buffer, multiplies its rows by each, keeps the product with its own column block and sends
every other product to the device whose columns those are. `steps_eq` says that the printed body, 205 operations
in a row, is this program.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen
open Idealize.ShloMosaic
open Idealize.ShloMosaic.TcCoe
open Idealize.SL.Sem

variable {F : FTy → Type} [FloatOps F]

/-! ## The memrefs -/

abbrev xM : Memref sig .tc .vmem S256x4096 .fp8e4m3 := Memref.whole cc0_stg0_0
abbrev sxM : Memref sig .tc .smem S1 .f32 := Memref.whole cc0_stg1_0
abbrev swM : Memref sig .tc .smem S1 .f32 := Memref.whole cc0_stg2_0
abbrev oM : Memref sig .tc .vmem S4096x512 .f32 := Memref.whole cc0_stg3_0
abbrev wM : Memref sig .tc .hbm S4096x8192 .f32 := Memref.whole main_arg1
abbrev xbM : Memref sig .tc .vmem S256x4096 .bf16 := Memref.whole cc0_scratch0
abbrev wbM : Memref sig .tc .vmem S2x4096x512 .f32 := Memref.whole cc0_scratch1
abbrev chM : Memref sig .tc .vmem S16x256x512 .bf16 := Memref.whole cc0_scratch2
abbrev rvM : Memref sig .tc .vmem S16x256x512 .bf16 := Memref.whole cc0_scratch3

/-! ## The rectangles, at any slot -/

theorem inb_slot : ∀ d : Fin 16, ∀ a, (![d.val, 0, 0] : Fin 3 → Nat) a + S1x256x512.size a ≤ S16x256x512.size a := by decide
theorem inb_wslot : ∀ p : Fin 2, ∀ a, (![p.val, 0, 0] : Fin 3 → Nat) a + S1x4096x512.size a ≤ S2x4096x512.size a := by decide
theorem inb_sem : ∀ d : Fin 16, ∀ a, (![d.val] : Fin 1 → Nat) a + S1.size a ≤ S16.size a := by decide
theorem inb_wsem : ∀ p : Fin 2, ∀ a, (![p.val] : Fin 1 → Nat) a + S1.size a ≤ S2.size a := by decide

/-- Slot `d` of the 16, of the two, and the two rectangles at the origin. -/
abbrev rSlot (d : Fin 16) : Rect S16x256x512 := Rect.unit (s := S16x256x512) ![d.val, 0, 0] S1x256x512.size (inb_slot d)
abbrev rW (p : Fin 2) : Rect S2x4096x512 := Rect.unit (s := S2x4096x512) ![p.val, 0, 0] S1x4096x512.size (inb_wslot p)
abbrev rX : Rect S256x4096 := Rect.unit (s := S256x4096) ![0, 0] S256x4096.size inb_S256x4096_S256x4096_0_0
abbrev rS : Rect S1 := Rect.unit (s := S1) ![0] S1.size inb_S1_S1_0
/-- Column block `(c + d) % 16` of `w`. -/
abbrev rCol (c : Dev nD) (d : Fin 16) : Rect S4096x8192 :=
  Rect.unit (s := S4096x8192) (k0_off1 c (BitVec.ofNat 32 d.val)) S4096x512.size (k0_off1_inb c d)
/-- Row block `c` of the result, and row block `(c + 1 + r) % 16`. -/
abbrev rOwn (c : Dev nD) : Rect S4096x512 := Rect.unit (s := S4096x512) (k0_off2 c) S256x512.size (k0_off2_inb c)
abbrev rRow (c : Dev nD) (r : Fin 15) : Rect S4096x512 :=
  Rect.unit (s := S4096x512) (k0_off3 c (BitVec.ofNat 32 (1 + r.val))) S256x512.size (k0_off3_inb c r)

theorem packed_slot : ∀ d : Fin 16, (rSlot d).PackedRows (EltTy.packing .bf16) := by decide
theorem words_slot : ∀ d : Fin 16, (rSlot d).WholeWords (EltTy.packing .bf16) := by decide

abbrev wCol (c : Dev nD) (d : Fin 16) : Memref sig .tc .hbm S4096x512 .f32 := wM.slice (rCol c d) (fun _ => rfl)
abbrev wSlot (p : Fin 2) : Memref sig .tc .vmem S4096x512 .f32 :=
  (wbM.slice (rW p) (fun _ => rfl)).squeeze S4096x512 squeezes_S1x4096x512_S4096x512
abbrev chSlot (d : Fin 16) : Memref sig .tc .vmem S256x512 .bf16 :=
  (chM.slice (rSlot d) (fun _ => rfl)).squeeze S256x512 squeezes_S1x256x512_S256x512
abbrev rvSlot (d : Fin 16) : Memref sig .tc .vmem S256x512 .bf16 :=
  (rvM.slice (rSlot d) (fun _ => rfl)).squeeze S256x512 squeezes_S1x256x512_S256x512

/-! ## The semaphores -/

/-- The runtime's barrier semaphore. -/
abbrev barS : Sem sig := (SemArray.scalar (sig.barrier 0 rfl) : Sems sig S_).sem
abbrev cpA (p : Fin 2) : DmaSem sig :=
  ((cc0_scratch4.slice (Rect.unit (s := S2) ![p.val] S1.size (inb_wsem p)) : DmaSems sig S1).squeeze S_ squeezes_S1_S_).sem
abbrev sdA (d : Fin 16) : DmaSem sig :=
  ((cc0_scratch5.slice (Rect.unit (s := S16) ![d.val] S1.size (inb_sem d)) : DmaSems sig S1).squeeze S_ squeezes_S1_S_).sem
abbrev rvA (d : Fin 16) : DmaSem sig :=
  ((cc0_scratch6.slice (Rect.unit (s := S16) ![d.val] S1.size (inb_sem d)) : DmaSems sig S1).squeeze S_ squeezes_S1_S_).sem

/-! ## The devices -/

/-- The printed chain from a device and a distance to the device that far on. -/
def devW (c : Dev nD) (k : BitVec 32) : Nat :=
  (Scalar.addi 0#32 (Scalar.muli (Scalar.remsi (Scalar.addi (Scalar.remsi (Scalar.divsi (Dev.word c) 1#32) 16#32) k) 16#32) 1#32)).toNat
theorem devW_lt : ∀ (d : Fin 16) (c : Dev nD), devW c (BitVec.ofNat 32 d.val) < nD := by decide +kernel
theorem devW_eq : ∀ (d : Fin 16) (c : Dev nD), devW c (BitVec.ofNat 32 d.val) = (c.val + d.val) % 16 := by decide +kernel
/-- The device `d` on from `c`, as the kernel computes it. -/
abbrev tgt (c : Dev nD) (d : Fin 16) : Dev nD := ⟨devW c (BitVec.ofNat 32 d.val), devW_lt d c⟩

/-! ## The payloads -/

/-- The product of `x`'s rows by a column block, scaled and clipped below at zero, in f32; -/
def blk (s : F .f32) (x : FVec F S256x4096 .bf16) (w : FVec F S4096x512 .f32) : FVec F S256x512 .f32 :=
  maximumf (mulf (matmul dot_S256x4096_S4096x512_S256x512_1_0_0_1_n_n none x (truncf .bf16 w bitsLt_bf16_f32)
    (constant S256x512 .f32 0x00000000#32)) (broadcast S256x512 s)) (broadcast S256x512 (Scalar.ofBits .f32 0x00000000#32))
/-- in bf16, as it is sent; -/
def blkH (s : F .f32) (x : FVec F S256x4096 .bf16) (w : FVec F S4096x512 .f32) : FVec F S256x512 .bf16 :=
  truncf .bf16 (blk s x w) bitsLt_bf16_f32
/-- and from bf16 as it is stored. -/
def wide (v : FVec F S256x512 .bf16) : FVec F S256x512 .f32 := extf .f32 v bitsLt_bf16_f32

/-! ## The program -/

abbrev P (F : FTy → Type) : Type 1 := Prog (TpuEff nD τ sig (Elt F) Λ₀ .tc) PUnit

/-- Step numbers as slots. -/
abbrev f16 (k : ℕ) : Fin 16 := ⟨k % 16, Nat.mod_lt _ (by decide)⟩
abbrev f2 (k : ℕ) : Fin 2 := ⟨k % 2, Nat.mod_lt _ (by decide)⟩
/-- Distance `16 - k`, as the printed index of a row block. -/
abbrev g15 (k : ℕ) : Fin 15 := ⟨(15 - k) % 15, Nat.mod_lt _ (by decide)⟩

/-- `f k`, `f (k + 1)`, …, `n` of them. -/
def loop (f : ℕ → P F) : ℕ → ℕ → P F
  | 0, _ => .ret ⟨⟩
  | n + 1, k => f k >>= fun _ => loop f n (k + 1)

def signal (c : Dev nD) (k : ℕ) : P F := semSignalWord (tgt c (f16 k)) barS 1#32

def startCopy (c : Dev nD) (k : ℕ) : P F :=
  Prog.lift (.enqueueDma (wCol c (f16 k)) (.here (wSlot (f2 k))) (.dma (cpA (f2 k))) (View.wordExact_bits rfl)
    ((View.wordExact_bits rfl).reshape _ _) ⟨Or.inl rfl, trivial⟩)
def waitCopy (c : Dev nD) (k : ℕ) : P F :=
  Prog.lift (.waitDma2 (cpA (f2 k)) (wCol c (f16 k)) (wSlot (f2 k)) (View.wordExact_bits rfl) ((View.wordExact_bits rfl).reshape _ _))

def loadX : Prog (TpuEff nD τ sig (Elt F) Λ₀ .tc) (Vec F S256x4096 .bf16) := Prog.lift (.load xbM rX.toLoadRect (View.loadsAt_vmem h_S256x4096))
def loadW (k : ℕ) : Prog (TpuEff nD τ sig (Elt F) Λ₀ .tc) (Vec F S1x4096x512 .f32) :=
  Prog.lift (.load wbM (rW (f2 k)).toLoadRect (View.loadsAt_vmem h_S1x4096x512))

/-- The own row block: multiplied and stored straight into the result. -/
def own (c : Dev nD) (s : F .f32) : P F := do
  let x ← loadX
  let w ← loadW 0
  let _ ← (Prog.lift (.load oM (rOwn c).toLoadRect (View.loadsAt_vmem h_S256x512)) : Prog (TpuEff nD τ sig (Elt F) Λ₀ .tc) (Vec F S256x512 .f32))
  Prog.lift (.store oM (rOwn c) (blk s x (shapeCast S4096x512 w shapeCasts_S1x4096x512_S4096x512)) Finset.univ
    (View.stores_vmem_bits_univ h_S256x512 rfl) (.inl rfl))

theorem isWhole_ch : chM.IsWhole := Memref.isWhole_whole _
theorem isWhole_rv : rvM.IsWhole := Memref.isWhole_whole _

/-- One product, in its chunk's slot. -/
def make (k : ℕ) (s : F .f32) : P F := do
  let x ← loadX
  let w ← loadW k
  let _ ← (Prog.lift (.load chM (rSlot (f16 k)).toLoadRect (View.loadsAt_vmem h_S1x256x512)) : Prog (TpuEff nD τ sig (Elt F) Λ₀ .tc) (Vec F S1x256x512 .bf16))
  Prog.lift (.store chM (rSlot (f16 k)) (shapeCast S1x256x512 (blkH s x (shapeCast S4096x512 w shapeCasts_S1x4096x512_S4096x512)) shapeCasts_S256x512_S1x256x512)
    Finset.univ (View.stores_vmem h_S1x256x512 (isWhole_ch.storeExact_slice rfl _ (packed_slot (f16 k))) (fun _ => rfl)) (.inl rfl))

/-- The chunk sent to the device `k` on. -/
def send (c : Dev nD) (k : ℕ) : P F :=
  Prog.lift (.enqueueDma (chSlot (f16 k)) (.remote (Dev.tc (tgt c (f16 k))) (rvSlot (f16 k)) (.dma (sdA (f16 k)))) (.dma (rvA (f16 k)))
    ((isWhole_ch.wordExact_slice rfl _ (words_slot (f16 k))).reshape _ _) ((isWhole_rv.wordExact_slice rfl _ (words_slot (f16 k))).reshape _ _)
    ⟨⟨rfl, Or.inl rfl⟩, trivial⟩)

def step (c : Dev nD) (s : F .f32) (k : ℕ) : P F := do
  waitCopy c k
  startCopy c (k + 1)
  make k s
  send c k

/-- A block awaited, read, and stored in the result's rows of the device that sent it. -/
def recv (c : Dev nD) (k : ℕ) : P F := do
  Prog.lift (.waitDma2 (rvA (f16 k)) (chSlot (f16 k)) (rvSlot (f16 k)) ((isWhole_ch.wordExact_slice rfl _ (words_slot (f16 k))).reshape _ _)
    ((isWhole_rv.wordExact_slice rfl _ (words_slot (f16 k))).reshape _ _))
  let v ← (Prog.lift (.load rvM (rSlot (f16 k)).toLoadRect (View.loadsAt_vmem h_S1x256x512)) : Prog (TpuEff nD τ sig (Elt F) Λ₀ .tc) (Vec F S1x256x512 .bf16))
  let _ ← (Prog.lift (.load oM (rRow c (g15 k)).toLoadRect (View.loadsAt_vmem h_S256x512)) : Prog (TpuEff nD τ sig (Elt F) Λ₀ .tc) (Vec F S256x512 .f32))
  Prog.lift (.store oM (rRow c (g15 k)) (wide (shapeCast S256x512 v shapeCasts_S1x256x512_S256x512)) Finset.univ
    (View.stores_vmem_bits_univ h_S256x512 rfl) (.inl rfl))

def drain (k : ℕ) : P F :=
  Prog.lift (.waitDma2 (sdA (f16 k)) (rvSlot (f16 k)) (chSlot (f16 k)) ((isWhole_rv.wordExact_slice rfl _ (words_slot (f16 k))).reshape _ _)
    ((isWhole_ch.wordExact_slice rfl _ (words_slot (f16 k))).reshape _ _))

def loadS (m : Memref sig .tc .smem S1 .f32) : Prog (TpuEff nD τ sig (Elt F) Λ₀ .tc) (Elt F .f32) := smemLoad m rS numel1_S1 rfl

/-- `x` widened to bf16 in its scratch buffer. -/
def widen : P F := do
  let x ← (Prog.lift (.load xM rX.toLoadRect (View.loadsAt_vmem h_S256x4096)) : Prog (TpuEff nD τ sig (Elt F) Λ₀ .tc) (Vec F S256x4096 .fp8e4m3))
  let _ ← loadX
  Prog.lift (.store xbM rX (k0_pay2 x) Finset.univ
    (View.stores_vmem h_S256x4096 ((Memref.isWhole_whole _).storeExact_slice rfl _ packedbf16_S256x4096_S256x4096_0_0) (fun _ => rfl)) (.inl rfl))

/-- All of it. -/
def steps : P F := do
  let c ← (Prog.lift .deviceId : Prog (TpuEff nD τ sig (Elt F) Λ₀ .tc) (Dev nD))
  loop (signal c) 15 1
  semWaitWord barS 15#32
  let a ← loadS sxM
  let b ← loadS swM
  widen
  startCopy c 0
  waitCopy c 0
  startCopy c 1
  own c (k0_pay1 a b)
  loop (step c (k0_pay1 a b)) 14 1
  waitCopy c 15
  make 15 (k0_pay1 a b)
  send c 15
  loop (recv c) 15 1
  loop drain 15 1

set_option maxRecDepth 65536 in

theorem steps_eq :
    cc0_body (F := F) xM (Memref.isWhole_whole _) wM (Memref.isWhole_whole _) sxM (Memref.isWhole_whole _) swM (Memref.isWhole_whole _)
      oM (Memref.isWhole_whole _) xbM (Memref.isWhole_whole _) wbM (Memref.isWhole_whole _) chM (Memref.isWhole_whole _)
      rvM (Memref.isWhole_whole _) cc0_scratch4 cc0_scratch5 cc0_scratch6 = steps := by chain_rfl

end Cert.KernelIdeal.Run

end
-- ==== Proof.KernelIdeal.Protocol.lean ====
/-
The protocol: for each semaphore who waits, who raises it, by how much, and what each landing hands over.

* The barrier semaphore of device `c`: fifteen duties of one unit, duty `d` (1 … 15) paid by the device `d` on from
  `c`, which thereby lends `c` its own receive slot `d`; `c` waits for all fifteen before it sends anything.
* Copy semaphore `p` of device `c` (two of them): eight rounds of one copy each, copy `k = 2 r + p` landing column
  block `c + k` of `w` in slot `p`; the landing hands the slot and the lent columns of `w` back.
* Send semaphore `d` of device `c`: one duty, the chunk's slot handed back.
* Receive semaphore `d` of device `c`: one duty, paid by the device `d` before `c`, whose product for `c` is then in
  `c`'s receive slot `d`.

A device waits on its barrier owing only receive credits, and on everything else owing at most those, so barriers
are placed below receive semaphores and all others below both.
-/
module

public import proofs.«01_k».proof.Proof.KernelIdeal.Prog

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

variable (m : (ℓ : Loc nD τ sig) → Buf (Elt F) ℓ)

/-! ## Devices around the ring -/

set_option backward.proofsInPublic true in
def fwd (c : Dev nD) (k : ℕ) : Dev nD := ⟨(c.val + k) % 16, Nat.mod_lt _ (by decide)⟩
set_option backward.proofsInPublic true in
def bwd (c : Dev nD) (k : ℕ) : Dev nD := ⟨(c.val + (16 - k % 16)) % 16, Nat.mod_lt _ (by decide)⟩

theorem bwd_fwd (c : Dev nD) (k : ℕ) : bwd (fwd c k) k = c := by
  have h16 : c.val < 16 := c.isLt; apply Fin.ext; simp only [bwd, fwd]; omega
theorem fwd_bwd (c : Dev nD) (k : ℕ) : fwd (bwd c k) k = c := by
  have h16 : c.val < 16 := c.isLt; apply Fin.ext; simp only [bwd, fwd]; omega
theorem fwd_eq_bwd (c : Dev nD) (k : ℕ) (h : 1 ≤ k) (h' : k ≤ 15) : fwd c k = bwd c (16 - k) := by
  have h16 : c.val < 16 := c.isLt; apply Fin.ext; simp only [bwd, fwd]; omega
theorem bwd_zero (c : Dev nD) : bwd c 0 = c := by
  have h16 : c.val < 16 := c.isLt; apply Fin.ext; simp only [bwd]; omega
theorem tgt_eq (c : Dev nD) (k : ℕ) : tgt c (f16 k) = fwd c k :=
  Fin.ext ((devW_eq (f16 k) c).trans (by simp only [fwd]; omega))

def around (k : ℕ) : Dev nD ≃ Dev nD := ⟨fun c => fwd c k, fun c => bwd c k, fun c => bwd_fwd c k, fun c => fwd_bwd c k⟩

theorem f16_of (d : Fin 16) : f16 d.val = d := Fin.ext (Nat.mod_eq_of_lt d.isLt)

/-! ## Cells -/

abbrev barCell (c : Dev nD) : GSem nD τ sig := ((c : Thread nD τ), .reg barS)
abbrev cpCell (c : Dev nD) (p : Fin 2) : GSem nD τ sig := ((c : Thread nD τ), .dma (cpA p))
abbrev sdCell (c : Dev nD) (d : Fin 16) : GSem nD τ sig := ((c : Thread nD τ), .dma (sdA d))
abbrev rvCell (c : Dev nD) (d : Fin 16) : GSem nD τ sig := ((c : Thread nD τ), .dma (rvA d))

theorem cpA_val : ∀ p : Fin 2, (cpA p).val = 4 + p.val := by decide
theorem sdA_val : ∀ d : Fin 16, (sdA d).val = 6 + d.val := by decide
theorem rvA_val : ∀ d : Fin 16, (rvA d).val = 22 + d.val := by decide

/-- The kernel's own semaphores, and with the barrier all it uses. -/
abbrev OK : Type := Fin 2 ⊕ Fin 16 ⊕ Fin 16
abbrev osem : OK → SemLoc sig := fun | .inl p => .dma (cpA p) | .inr (.inl d) => .dma (sdA d) | .inr (.inr d) => .dma (rvA d)
abbrev CK : Type := Unit ⊕ OK
abbrev csem : CK → SemLoc sig := fun | .inl _ => .reg barS | .inr k => osem k
abbrev kcell (ck : Dev nD × CK) : GSem nD τ sig := ((ck.1 : Thread nD τ), csem ck.2)

/-- The credit of a chunk and of a column block. -/
abbrev N : ℕ := (rvSlot 0).view.dmaCredit
abbrev N2 : ℕ := (wSlot 0).view.dmaCredit
theorem N_pos : 0 < N := View.dmaCredit_pos _ (by decide)
theorem N2_pos : 0 < N2 := View.dmaCredit_pos _ (by decide)
theorem rv_credit (d : Fin 16) : (rvSlot d).view.dmaCredit = N := rfl
theorem ch_credit (d : Fin 16) : (chSlot d).view.dmaCredit = N := rfl
theorem w_credit (p : Fin 2) : (wSlot p).view.dmaCredit = N2 := rfl

/-! ## Contents -/

/-- What device `c`'s windows hold at the start: its rows of `x`, and the two scales. -/
def xstg (c : Dev nD) : (cc0_stg0_0 : Ref sig .tc).ty.Contents (Elt F) := (win0_0.blk (0 : Fin 1)).view.read (Elt F) (m ((c : Thread nD τ).loc main_arg0))
def sxstg (c : Dev nD) : (cc0_stg1_0 : Ref sig .tc).ty.Contents (Elt F) := (win0_1.blk (0 : Fin 1)).view.read (Elt F) (m ((c : Thread nD τ).loc main_arg2))
def swstg (c : Dev nD) : (cc0_stg2_0 : Ref sig .tc).ty.Contents (Elt F) := (win0_2.blk (0 : Fin 1)).view.read (Elt F) (m ((c : Thread nD τ).loc main_arg3))
/-- All of `w`; -/
abbrev wv (c : Dev nD) : Buf (Elt F) ((c : Thread nD τ).loc main_arg1) := m ((c : Thread nD τ).loc main_arg1)
/-- its column block `k` on from the device; -/
def wc (c : Dev nD) (k : ℕ) : FVec F S4096x512 .f32 := (wCol c (f16 k)).view.read (Elt F) (wv m c)
/-- `x`'s rows in bf16; -/
def xb (c : Dev nD) : FVec F S256x4096 .bf16 := k0_pay2 (xstg m c)
/-- the scale; -/
def sx (c : Dev nD) : Elt F .f32 := (sxM.access rS).read (Elt F) (sxstg m c) (Shape.Idx.first (numel1_S1.symm ▸ Nat.one_pos))
def sw (c : Dev nD) : Elt F .f32 := (swM.access rS).read (Elt F) (swstg m c) (Shape.Idx.first (numel1_S1.symm ▸ Nat.one_pos))
def sc (c : Dev nD) : F .f32 := k0_pay1 (sx m c) (sw m c)
/-- the product for the device `k` on, in f32 and in bf16. -/
def yv (c : Dev nD) (k : ℕ) : FVec F S256x512 .f32 := blk (sc m c) (xb m c) (wc m c k)
def yh (c : Dev nD) (k : ℕ) : FVec F S256x512 .bf16 := blkH (sc m c) (xb m c) (wc m c k)

/-- A slot held, at some contents. -/
def someRv (c : Dev nD) (d : Fin 16) : sProp 𝕄 := iprop(∃ X, owns (c : Thread nD τ) (rvSlot d) fullShare X)
def someCh (c : Dev nD) (d : Fin 16) : sProp 𝕄 := iprop(∃ X, owns (c : Thread nD τ) (chSlot d) fullShare X)
def someW (c : Dev nD) (p : Fin 2) : sProp 𝕄 := iprop(∃ X, owns (c : Thread nD τ) (wSlot p) fullShare X)

/-- The columns of `w` a copy reads, and the others. -/
def wLent (c : Dev nD) (k : ℕ) : sProp 𝕄 := (wCol c (f16 k)).view.loc (c : Thread nD τ) ↦[(wCol c (f16 k)).view.set]{fullShare} wv m c
def wKept (c : Dev nD) (k : ℕ) : sProp 𝕄 := (c : Thread nD τ).loc main_arg1 ↦[Finset.univ \ (wCol c (f16 k)).view.set]{fullShare} wv m c
def wAll (c : Dev nD) : sProp 𝕄 := (c : Thread nD τ).loc main_arg1 ↦{fullShare} wv m c

theorem wAll_split (c : Dev nD) (k : ℕ) : (wAll m c : sProp 𝕄) = iprop(wLent m c k ∗ wKept m c k) := by
  unfold wAll wLent wKept
  have h := pointsTo_split_subset (Ix := Unit) (Name := ℕ) (U := UU) (Lvl := ℕ) (ℓ := (c : Thread nD τ).loc main_arg1) (q := fullShare) (f := wv m c)
    (Finset.subset_univ (wCol c (f16 k)).view.set)
  exact BI.equiv_iff.mp ⟨h.1, h.2⟩

/-! ## The schedule -/

/-- What each landing hands over. -/
def barPay (c : Dev nD) (d : Fin 16) : sProp 𝕄 := someRv (fwd c d.val) d
def cpPay (c : Dev nD) (k : ℕ) : sProp 𝕄 := iprop(owns (c : Thread nD τ) (wSlot (f2 k)) fullShare (wc m c k) ∗ wLent m c k)
def sdPay (c : Dev nD) (k : ℕ) : sProp 𝕄 := owns (c : Thread nD τ) (chSlot (f16 k)) fullShare (yh m c k)
def rvPay (c : Dev nD) (k : ℕ) : sProp 𝕄 := owns (c : Thread nD τ) (rvSlot (f16 k)) fullShare (yh m (bwd c k) k)

instance barPay_storable (c : Dev nD) (d : Fin 16) : BI.Storable (upEmb : UEmb _ 𝕄) (barPay (F := F) c d) := by unfold barPay someRv; infer_instance
instance cpPay_storable (c : Dev nD) (k : ℕ) : BI.Storable (upEmb : UEmb _ 𝕄) (cpPay m c k) := by unfold cpPay wLent; infer_instance
instance sdPay_storable (c : Dev nD) (k : ℕ) : BI.Storable (upEmb : UEmb _ 𝕄) (sdPay m c k) := by unfold sdPay; infer_instance
instance rvPay_storable (c : Dev nD) (k : ℕ) : BI.Storable (upEmb : UEmb _ 𝕄) (rvPay m c k) := by unfold rvPay; infer_instance

/-- The duties of a device's semaphore in round `r`: -/
def dutiesAt (s : SemLoc sig) (r : ℕ) : Finset (Fin 16) :=
  match s with
  | .reg _ => if r = 0 then Finset.univ.erase 0 else ∅
  | .dma q =>
    if q.val < 6 then (if r < 8 then {0} else ∅)
    else if q.val = 6 ∨ q.val = 22 then ∅
    else if r = 0 then {0} else ∅
def amountAt (s : SemLoc sig) : ℕ := match s with | .reg _ => 1 | .dma q => if q.val < 6 then N2 else N
def payAt (c : Dev nD) (s : SemLoc sig) (r : ℕ) (d : Fin 16) : sProp 𝕄 :=
  match s with
  | .reg _ => barPay c d
  | .dma q => if q.val < 6 then cpPay m c (2 * r + (q.val - 4)) else if q.val < 22 then sdPay m c (q.val - 6) else rvPay m c (q.val - 22)

instance payAt_storable (c : Dev nD) (s : SemLoc sig) (r : ℕ) (d : Fin 16) : BI.Storable (upEmb : UEmb _ 𝕄) (payAt m c s r d) := by
  unfold payAt
  (repeat' split) <;> infer_instance

def rd : Rounds.Schedule (GSem nD τ sig) (Fin 16) 𝕄 where
  duties g r := dutiesAt g.2 r
  unitless _ := False
  amount g _ _ := amountAt g.2
  payload g r d := payAt m g.1.1 g.2 r d
  amount_pos g _ _ _ := by
    unfold amountAt
    split
    · exact Nat.one_pos
    · split
      · exact N2_pos
      · exact N_pos

instance rd_payload_storable (g : GSem nD τ sig) (r : ℕ) (d : Fin 16) : BI.Storable (upEmb : UEmb _ 𝕄) ((rd (F := F) m).payload g r d) :=
  payAt_storable m g.1.1 g.2 r d

section Sched
variable (c : Dev nD)

theorem duties_bar : (rd (F := F) m).duties (barCell c) 0 = Finset.univ.erase 0 := rfl
theorem duties_cp (k : ℕ) (h : k < 16) : (rd (F := F) m).duties (cpCell c (f2 k)) (k / 2) = {0} := by
  have hv := cpA_val (f2 k)
  have h2 := (f2 k).isLt
  show dutiesAt (.dma (cpA (f2 k))) (k / 2) = {0}
  dsimp only [dutiesAt]; rw [if_pos (by omega), if_pos (by omega)]
theorem duties_sd (k : ℕ) (h : 1 ≤ k) (h' : k < 16) : (rd (F := F) m).duties (sdCell c (f16 k)) 0 = {0} := by
  have hv : (sdA (f16 k)).val = 6 + k % 16 := sdA_val (f16 k)
  show dutiesAt (.dma (sdA (f16 k))) 0 = {0}
  dsimp only [dutiesAt]; rw [if_neg (by omega), if_neg (by omega), if_pos rfl]
theorem duties_rv (k : ℕ) (h : 1 ≤ k) (h' : k < 16) : (rd (F := F) m).duties (rvCell c (f16 k)) 0 = {0} := by
  have hv : (rvA (f16 k)).val = 22 + k % 16 := rvA_val (f16 k)
  show dutiesAt (.dma (rvA (f16 k))) 0 = {0}
  dsimp only [dutiesAt]; rw [if_neg (by omega), if_neg (by omega), if_pos rfl]

theorem later_bar : ∀ r, 1 ≤ r → (rd (F := F) m).duties (barCell c) r = ∅ := fun r hr => by
  show dutiesAt (.reg barS) r = ∅
  dsimp only [dutiesAt]; rw [if_neg (by omega)]
theorem later_cp (p : Fin 2) : ∀ r, 8 ≤ r → (rd (F := F) m).duties (cpCell c p) r = ∅ := fun r hr => by
  have hv := cpA_val p
  have h2 := p.isLt
  show dutiesAt (.dma (cpA p)) r = ∅
  dsimp only [dutiesAt]; rw [if_pos (by omega), if_neg (by omega)]
theorem later_sd (d : Fin 16) : ∀ r, (if d.val = 0 then 0 else 1) ≤ r → (rd (F := F) m).duties (sdCell c d) r = ∅ := fun r hr => by
  have hv := sdA_val d
  have h2 := d.isLt
  show dutiesAt (.dma (sdA d)) r = ∅
  dsimp only [dutiesAt]; rw [if_neg (by omega)]
  split
  · rfl
  · rw [if_neg (by split at hr <;> omega)]
theorem later_rv (d : Fin 16) : ∀ r, (if d.val = 0 then 0 else 1) ≤ r → (rd (F := F) m).duties (rvCell c d) r = ∅ := fun r hr => by
  have hv := rvA_val d
  have h2 := d.isLt
  show dutiesAt (.dma (rvA d)) r = ∅
  dsimp only [dutiesAt]; rw [if_neg (by omega)]
  split
  · rfl
  · rw [if_neg (by split at hr <;> omega)]

theorem amount_bar (r : ℕ) (d : Fin 16) : (rd (F := F) m).amount (barCell c) r d = 1 := rfl
theorem amount_cp (p : Fin 2) (r : ℕ) (d : Fin 16) : (rd (F := F) m).amount (cpCell c p) r d = N2 := by
  have hv := cpA_val p
  have h2 := p.isLt
  show amountAt (.dma (cpA p)) = N2
  dsimp only [amountAt]; rw [if_pos (by omega)]
theorem amount_sd (e : Fin 16) (r : ℕ) (d : Fin 16) : (rd (F := F) m).amount (sdCell c e) r d = N := by
  have hv := sdA_val e
  show amountAt (.dma (sdA e)) = N
  dsimp only [amountAt]; rw [if_neg (by omega)]
theorem amount_rv (e : Fin 16) (r : ℕ) (d : Fin 16) : (rd (F := F) m).amount (rvCell c e) r d = N := by
  have hv := rvA_val e
  show amountAt (.dma (rvA e)) = N
  dsimp only [amountAt]; rw [if_neg (by omega)]

theorem expect_bar : (rd (F := F) m).expect (barCell c) 0 = 15 := by
  unfold Schedule.expect Schedule.amountOf
  rw [duties_bar, Finset.sum_congr rfl fun d _ => amount_bar m c 0 d]; decide
theorem expect_cp (k : ℕ) (h : k < 16) : (rd (F := F) m).expect (cpCell c (f2 k)) (k / 2) = N2 := by
  unfold Schedule.expect Schedule.amountOf; rw [duties_cp m c k h, Finset.sum_singleton, amount_cp]
theorem expect_sd (k : ℕ) (h : 1 ≤ k) (h' : k < 16) : (rd (F := F) m).expect (sdCell c (f16 k)) 0 = N := by
  unfold Schedule.expect Schedule.amountOf; rw [duties_sd m c k h h', Finset.sum_singleton, amount_sd]
theorem expect_rv (k : ℕ) (h : 1 ≤ k) (h' : k < 16) : (rd (F := F) m).expect (rvCell c (f16 k)) 0 = N := by
  unfold Schedule.expect Schedule.amountOf; rw [duties_rv m c k h h', Finset.sum_singleton, amount_rv]

theorem payload_bar (d : Fin 16) : (rd (F := F) m).payload (barCell c) 0 d = barPay c d := rfl
theorem payload_cp (k : ℕ) : (rd (F := F) m).payload (cpCell c (f2 k)) (k / 2) 0 = cpPay m c k := by
  have hv : (cpA (f2 k)).val = 4 + k % 2 := cpA_val (f2 k)
  show payAt m c (.dma (cpA (f2 k))) (k / 2) 0 = _
  dsimp only [payAt]; rw [if_pos (by omega), hv, show 2 * (k / 2) + (4 + k % 2 - 4) = k by omega]
theorem payload_sd (k : ℕ) (h' : k < 16) : (rd (F := F) m).payload (sdCell c (f16 k)) 0 0 = sdPay m c k := by
  have hv : (sdA (f16 k)).val = 6 + k % 16 := sdA_val (f16 k)
  show payAt m c (.dma (sdA (f16 k))) 0 0 = _
  dsimp only [payAt]; rw [if_neg (by omega), if_pos (by omega), hv, show 6 + k % 16 - 6 = k by omega]
theorem payload_rv (k : ℕ) (h' : k < 16) : (rd (F := F) m).payload (rvCell c (f16 k)) 0 0 = rvPay m c k := by
  have hv : (rvA (f16 k)).val = 22 + k % 16 := rvA_val (f16 k)
  show payAt m c (.dma (rvA (f16 k))) 0 0 = _
  dsimp only [payAt]; rw [if_neg (by omega), if_neg (by omega), hv, show 22 + k % 16 - 22 = k by omega]

/-- Over all the slots, by number. -/
theorem bigSep_slots (Φ : Fin 16 → sProp 𝕄) : bigSep Finset.univ Φ = bigSep (Finset.Ico 0 16) fun k => Φ (f16 k) := by
  rw [show Finset.Ico 0 16 = (Finset.univ : Finset (Fin 16)).map Fin.valEmbedding by decide, bigSep_map]
  exact bigSep_congr fun d _ => congrArg Φ (f16_of d).symm
theorem bigSep_slots_pos (Φ : Fin 16 → sProp 𝕄) : bigSep (Finset.univ.erase 0) Φ = bigSep (Finset.Ico 1 16) fun k => Φ (f16 k) := by
  rw [show Finset.Ico 1 16 = ((Finset.univ : Finset (Fin 16)).erase 0).map Fin.valEmbedding by decide, bigSep_map]
  exact bigSep_congr fun d _ => congrArg Φ (f16_of d).symm

theorem fwd_mod (k : ℕ) : fwd c (k % 16) = fwd c k := Fin.ext (by simp only [fwd]; omega)

theorem rest_bar : bigSep ((rd (F := F) m).duties (barCell c) 0 \ ∅) (fun d => (rd (F := F) m).payload (barCell c) 0 d)
    = bigSep (Finset.Ico 1 16) fun k => someRv (fwd c k) (f16 k) := by
  rw [Finset.sdiff_empty, duties_bar, bigSep_slots_pos]
  exact bigSep_congr fun k _ => by rw [payload_bar, barPay, fwd_mod]
theorem rest_cp (k : ℕ) (h : k < 16) :
    bigSep ((rd (F := F) m).duties (cpCell c (f2 k)) (k / 2) \ ∅) (fun d => (rd (F := F) m).payload (cpCell c (f2 k)) (k / 2) d) = cpPay m c k := by
  rw [Finset.sdiff_empty, duties_cp m c k h, bigSep_singleton, payload_cp]
theorem rest_sd (k : ℕ) (h : 1 ≤ k) (h' : k < 16) :
    bigSep ((rd (F := F) m).duties (sdCell c (f16 k)) 0 \ ∅) (fun d => (rd (F := F) m).payload (sdCell c (f16 k)) 0 d) = sdPay m c k := by
  rw [Finset.sdiff_empty, duties_sd m c k h h', bigSep_singleton, payload_sd m c k h']
theorem rest_rv (k : ℕ) (h : 1 ≤ k) (h' : k < 16) :
    bigSep ((rd (F := F) m).duties (rvCell c (f16 k)) 0 \ ∅) (fun d => (rd (F := F) m).payload (rvCell c (f16 k)) 0 d) = rvPay m c k := by
  rw [Finset.sdiff_empty, duties_rv m c k h h', bigSep_singleton, payload_rv m c k h']

end Sched

/-! ## What a device owes; the levels -/

/-- The chunks still to be sent from number `k`, and the barrier units still to be signalled, numbers below `n`. -/
def Osd (c : Dev nD) (k : ℕ) : CellTallies nD τ sig Unit := ∑ e ∈ Finset.Ico k 16, tallyAt (rvCell (fwd c e) (f16 e)) () N
def Obar (c : Dev nD) (n : ℕ) : CellTallies nD τ sig Unit := ∑ e ∈ Finset.Ico 1 n, tallyAt (barCell (bwd c e)) () 1
def O₀ (c : Dev nD) : CellTallies nD τ sig Unit := Osd c 1 + Obar c 16

theorem Osd_peel (c : Dev nD) (k : ℕ) (h : k < 16) : Osd c k = Osd c (k + 1) + tallyAt (rvCell (fwd c k) (f16 k)) () N := by
  unfold Osd;
  rw [show Finset.Ico k 16 = insert k (Finset.Ico (k + 1) 16) by ext x; simp only [Finset.mem_Ico, Finset.mem_insert]; omega,
    Finset.sum_insert (by rw [Finset.mem_Ico]; omega), add_comm]
theorem Osd_end (c : Dev nD) : Osd c 16 = 0 := by unfold Osd; rw [Finset.Ico_self, Finset.sum_empty]
theorem Obar_peel (c : Dev nD) (n : ℕ) (h : 1 ≤ n) : Obar c (n + 1) = Obar c n + tallyAt (barCell (bwd c n)) () 1 := by
  unfold Obar; rw [Nat.Ico_succ_right_eq_insert_Ico h, Finset.sum_insert Finset.right_notMem_Ico, add_comm]
theorem Obar_one (c : Dev nD) : Obar c 1 = 0 := by unfold Obar; rw [Finset.Ico_self, Finset.sum_empty]

def L (g : GSem nD τ sig) : Finset Unit := if g.1.2 = .tc then {()} else ∅
def lvS (s : SemLoc sig) : ℕ := match s with | .reg _ => 1 | .dma q => if 22 ≤ q.val then 2 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- A sum of tallies positive somewhere is positive at one of its cells. -/
theorem sum_pos_cell {s : Finset ℕ} {f : ℕ → GSem nD τ sig} {n : ℕ} {g : GSem nD τ sig} {u : Unit}
    (h : 0 < (∑ e ∈ s, tallyAt (Ix := Unit) (f e) () n : CellTallies nD τ sig Unit) g u) : ∃ e ∈ s, g = f e := by
  by_contra hn
  rw [not_exists] at hn
  rw [Finset.sum_apply, Finsupp.finset_sum_apply, Finset.sum_eq_zero] at h
  · exact Nat.lt_irrefl 0 h
  · intro e he
    rw [tallyAt_apply]; exact if_neg fun h' => hn e ⟨he, h'.1⟩

theorem Osd_pos {c : Dev nD} {k : ℕ} {g : GSem nD τ sig} {u : Unit} (h : 0 < Osd c k g u) : L g = {()} ∧ lv g u = 2 := by
  obtain ⟨e, -, rfl⟩ := sum_pos_cell h
  refine ⟨L_tc _ _, ?_⟩
  have hv := rvA_val (f16 e)
  show lvS (.dma (rvA (f16 e))) = 2
  dsimp only [lvS]; rw [if_pos (by omega)]
theorem Obar_pos {c : Dev nD} {k : ℕ} {g : GSem nD τ sig} {u : Unit} (h : 0 < Obar c k g u) : L g = {()} ∧ lv g u = 1 := by
  obtain ⟨e, -, rfl⟩ := sum_pos_cell h
  exact ⟨L_tc _ _, rfl⟩
theorem O₀_pos {c : Dev nD} {g : GSem nD τ sig} {u : Unit} (h : 0 < O₀ c g u) : L g = {()} ∧ 1 ≤ lv g u := by
  unfold O₀ at h
  rw [Pi.add_apply, Finsupp.add_apply] at h
  rcases Nat.eq_zero_or_pos (Osd c 1 g u) with h0 | h0
  · have := Obar_pos (c := c) (k := 16) (g := g) (u := u) (by omega); exact ⟨this.1, by omega⟩
  · have := Osd_pos h0; exact ⟨this.1, by omega⟩

/-- A device may wait on a semaphore of level `b` while all it owes is above `b`. -/
theorem mayWait_of (c : Dev nD) (sm : SemLoc sig) (b : ℕ) (O : CellTallies nD τ sig Unit) (hb : lvS sm ≤ b)
    (hO : ∀ g u, 0 < O g u → L g = {()} ∧ b < lv g u) : (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by rw [(hO g u hg).1]; exact Finset.mem_singleton_self _)
    (fun p hp => by rw [Finset.mem_singleton.mp hp]; exact hb)
    (fun g u hg => (hO g u hg).2)

theorem mayWait_bar (c : Dev nD) (k : ℕ) : (levAts L lv : sProp 𝕄) ⊢ MayWait (c : Thread nD τ) (.reg barS) () (Osd c k) :=
  mayWait_of c _ 1 _ (le_refl _) fun g u h => ⟨(Osd_pos h).1, by rw [(Osd_pos h).2]; decide⟩
theorem mayWait_cp (c : Dev nD) (p : Fin 2) (k : ℕ) : (levAts L lv : sProp 𝕄) ⊢ MayWait (c : Thread nD τ) (.dma (cpA p)) () (Osd c k) :=
  mayWait_of c _ 1 _ (by
    have hv := cpA_val p
    have h2 := p.isLt
    dsimp only [lvS]; rw [if_neg (by omega)]; decide) fun g u h => ⟨(Osd_pos h).1, by rw [(Osd_pos h).2]; decide⟩
theorem mayWait_end (c : Dev nD) (sm : SemLoc sig) : (levAts L lv : sProp 𝕄) ⊢ MayWait (c : Thread nD τ) sm () (Osd c 16) := by
  rw [Osd_end, MayWait_zero]; iintro -; iempintro
theorem mayWait_stage (c : Dev nD) (q : DmaSem sig) (hq : q.val < 22) (O : CellTallies nD τ sig Unit) (hO : O = O₀ c ∨ O = 0) :
    (levAts L lv : sProp 𝕄) ⊢ MayWait (c : Thread nD τ) (.dma q) () O := by
  rcases hO with rfl | rfl
  · exact mayWait_of c _ 0 _ (by dsimp only [lvS]; rw [if_neg (by omega)]) fun g u h => O₀_pos h
  · rw [MayWait_zero]; iintro -; iempintro

end Cert.KernelIdeal.Run

end
-- ==== Proof.KernelIdeal.Output.lean ====
/-
The result's rows: which device's product stands where, and what a store of one row block does to them.
-/
module

public import proofs.«01_k».proof.Proof.KernelIdeal.Protocol

@[expose] public section

noncomputable section

namespace Cert.KernelIdeal.Run

open Cert.KernelIdeal Cert.KernelIdeal.Gen
open Idealize.ShloMosaic
open Idealize.ShloMosaic.TcCoe

variable {F : FTy → Type} [FloatOps F]
variable (m : (ℓ : Loc nD τ sig) → Buf (Elt F) ℓ)

theorem row_lt (i : S4096x512.Idx) : (i 0).val < 4096 := (i 0).isLt
theorem col_lt (i : S4096x512.Idx) : (i 1).val < 512 := (i 1).isLt

set_option backward.proofsInPublic true in
/-- The device whose rows an element of the result stands in, and the element's place among them. -/
def src (i : S4096x512.Idx) : Dev nD := ⟨(i 0).val / 256, Nat.div_lt_of_lt_mul (row_lt i)⟩
set_option backward.proofsInPublic true in
def place (i : S4096x512.Idx) : S256x512.Idx := fun
  | 0 => ⟨(i 0).val % 256, Nat.mod_lt _ (by decide)⟩
  | 1 => ⟨(i 1).val, col_lt i⟩

/-- Row block `s` of device `c`'s result: its own product as computed, another device's as sent and widened. -/
def part (c s : Dev nD) : FVec F S256x512 .f32 := if s = c then yv m c 0 else wide (yh m s ((c.val + (16 - s.val)) % 16))
/-- Device `c`'s result. -/
def outAt (c : Dev nD) : (cc0_stg3_0 : Ref sig .tc).ty.Contents (Elt F) := fun i => part m c (src i) (place i)

theorem part_own (c : Dev nD) : part m c c = yv m c 0 := if_pos rfl
theorem part_bwd (c : Dev nD) (k : ℕ) (h : 1 ≤ k) (h' : k < 16) : part m c (bwd c k) = wide (yh m (bwd c k) k) := by
  have h16 : c.val < 16 := c.isLt
  unfold part
  rw [if_neg fun e => by have := congrArg Fin.val e; simp only [bwd] at this; omega]
  congr 2
  simp only [bwd]; omega

theorem write_rows (off : Fin 2 → ℕ) (inb) (s : Dev nD) (hoff : off = ![256 * s.val, 0]) (g : (cc0_stg3_0 : Ref sig .tc).ty.Contents (Elt F))
    (v : FVec F S256x512 .f32) (i : S4096x512.Idx) :
    (oM.access (Rect.unit (s := S4096x512) off S256x512.size inb)).write (Elt F) g v Finset.univ i = if src i = s then v (place i) else g i := by
  subst hoff
  have h0 := row_lt i
  have h1 := col_lt i
  by_cases h : src i = s
  · rw [if_pos h]
    have hi : (oM.access (Rect.unit (s := S4096x512) ![256 * s.val, 0] S256x512.size inb)).emb (place i) = i := by
      have hs : (i 0).val / 256 = s.val := congrArg Fin.val h
      funext a
      apply Fin.ext
      fin_cases a
      · show 256 * s.val + 1 * ((i 0).val % 256) = (i 0).val
        omega
      · show 0 + 1 * (i 1).val = (i 1).val
        omega
    conv_lhs => rw [← hi]
    rw [View.write_emb_of_mem _ _ (Finset.mem_univ _)]
    rfl
  · rw [if_neg h]
    refine View.write_of_not_mem _ _ _ fun hm => h ?_
    rw [View.setOn_univ, View.set_slice] at hm
    obtain ⟨x, hx, rfl⟩ := Finset.mem_map.mp hm
    have hx0 := (Rect.mem_set_unit.mp hx) 0
    have hx' : 256 * s.val ≤ (x 0).val ∧ (x 0).val < 256 * s.val + 256 := hx0
    apply Fin.ext
    show (x 0).val / 256 = s.val
    omega

/-- The rows of the devices at distances below `n` before `c` are right. -/
def RowsOk (c : Dev nD) (n : ℕ) (g : (cc0_stg3_0 : Ref sig .tc).ty.Contents (Elt F)) : Prop :=
  ∀ e < n, ∀ i : S4096x512.Idx, src i = bwd c e → g i = outAt m c i

theorem rowsOk_own (c : Dev nD) (g : (cc0_stg3_0 : Ref sig .tc).ty.Contents (Elt F)) :
    RowsOk m c 1 ((oM.access (rOwn c)).write (Elt F) g (yv m c 0) Finset.univ) := by
  intro e he i hi
  obtain rfl : e = 0 := by omega
  rw [bwd_zero] at hi
  rw [write_rows _ _ c (k0_off2_eq c), if_pos hi, outAt, hi, part_own]

theorem rowsOk_recv (c : Dev nD) (k : ℕ) (h : 1 ≤ k) (h' : k < 16) (g : (cc0_stg3_0 : Ref sig .tc).ty.Contents (Elt F)) (hg : RowsOk m c k g) :
    RowsOk m c (k + 1) ((oM.access (rRow c (g15 k))).write (Elt F) g (wide (yh m (bwd c k) k)) Finset.univ) := by
  have hoff : k0_off3 c (BitVec.ofNat 32 (1 + (g15 k).val)) = ![256 * (bwd c k).val, 0] := by
    rw [k0_off3_eq c (g15 k)]
    have h16 : c.val < 16 := c.isLt
    have : (c.val + (g15 k).val + 1) % 16 = (bwd c k).val := by simp only [bwd]; omega
    rw [this]
  intro e he i hi
  rw [write_rows _ _ (bwd c k) hoff]
  by_cases hk : src i = bwd c k
  · rw [if_pos hk, outAt, hk, part_bwd m c k h h']
  · rw [if_neg hk]
    exact hg e (by
      rcases Nat.lt_succ_iff_lt_or_eq.mp he with h2 | rfl
      · exact h2
      · exact absurd hi hk) i hi

theorem rowsOk_end (c : Dev nD) (g : (cc0_stg3_0 : Ref sig .tc).ty.Contents (Elt F)) (hg : RowsOk m c 16 g) : g = outAt m c := by
  funext i
  have h16 : c.val < 16 := c.isLt
  have hs : (src i).val < 16 := (src i).isLt
  exact hg ((c.val + (16 - (src i).val)) % 16) (Nat.mod_lt _ (by decide)) i (Fin.ext (by simp only [bwd]; omega))

end Cert.KernelIdeal.Run

end
-- ==== Proof.KernelIdeal.Steps.lean ====
/-
Each step of the program, at any step number: what it takes and what it leaves.
-/
module

public import proofs.«01_k».proof.Proof.KernelIdeal.Output
public import Idealize.SL.BI.BigOpNat

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Programs with what they take and leave -/

abbrev PP (F : FTy → Type) (α : Type) : Type 1 := Prog (TpuEff nD τ sig (Elt F) Λ₀ .tc) α

abbrev WP (c : Dev nD) {α : Type} (p : PP F α) (Q : α → sProp 𝕄) : sProp 𝕄 :=
  wp frame (wpE (defs₀ (F := F)) 𝒱₀ (c : Thread nD τ) none) Set.univ p Q

/-- From `pre`, program `p` on device `c` returns `v` and leaves `post`. -/
def Tri (c : Dev nD) (pre : sProp 𝕄) {α : Type} (p : PP F α) (v : α) (post : sProp 𝕄) : Prop :=
  ∀ (Q : PUnit → sProp 𝕄) (k : α → PP F PUnit), pre ⊢ iprop((post -∗ WP c (k v) Q) -∗ WP c (p >>= k) Q)

/-- A loop keeps what each of its steps keeps. -/
theorem Tri.loop {c : Dev nD} {R : sProp 𝕄} [BI.Persistent R] {f : ℕ → P F} {I : ℕ → sProp 𝕄} : ∀ n s : ℕ,
    (∀ k, s ≤ k → k < s + n → Tri c iprop(R ∗ I k) (f k) ⟨⟩ (I (k + 1))) → Tri c iprop(R ∗ I s) (loop f n s) ⟨⟩ (I (s + n))
  | 0, s, _ => fun Q k => by
    iintro ⟨-, H⟩ Hk
    rw [Run.loop, Prog.bind_ret]
    iapply Hk; iexact H
  | n + 1, s, h => fun Q k => by
    iintro ⟨#HR, H⟩ Hk
    rw [Run.loop, Prog.bind_assoc]
    iapply (h s (le_refl s) (by omega) Q _) $$ [H]
    · isplitr; · iexact HR
      iexact H
    iintro H
    iapply (Tri.loop (c := c) (R := R) (f := f) (I := I) n (s + 1) (fun k h1 h2 => h k (by omega) (by omega)) Q k) $$ [H]
    · isplitr; · iexact HR
      iexact H
    rw [show s + 1 + n = s + (n + 1) by omega]
    iexact Hk

/-! ## What all devices know -/

/-- A cell's invariant is in place, and round 0 of it is reached. -/
def Known (g : GSem nD τ sig) : sProp 𝕄 := iprop((∃ κ : ℕ, cellInv ER (rd m) κ g) ∗ reached ER g 0)
instance known_persistent (g : GSem nD τ sig) : BI.Persistent (Known m g) := by unfold Known; infer_instance

def ctx : sProp 𝕄 := iprop((bigSep Finset.univ fun ck : Dev nD × CK => Known m (kcell ck)) ∗ levAts L lv)
instance ctx_persistent : BI.Persistent (ctx m) := by unfold ctx; infer_instance

theorem known (ck : Dev nD × CK) : ctx m ⊢ Known m (kcell ck) := by
  unfold ctx
  exact sep_elim_left.trans (bigSep_elim (Finset.mem_univ ck))
theorem known_bar (c : Dev nD) : ctx m ⊢ Known m (barCell c) := known m (c, .inl ())
theorem known_cp (c : Dev nD) (p : Fin 2) : ctx m ⊢ Known m (cpCell c p) := known m (c, .inr (.inl p))
theorem known_sd (c : Dev nD) (d : Fin 16) : ctx m ⊢ Known m (sdCell c d) := known m (c, .inr (.inr (.inl d)))
theorem known_rv (c : Dev nD) (d : Fin 16) : ctx m ⊢ Known m (rvCell c d) := known m (c, .inr (.inr (.inr d)))
theorem ctx_levels : ctx m ⊢ levAts L lv := by unfold ctx; iintro ⟨-, H⟩; iexact H

/-- What device `c` owes, whatever it has waited for. -/
def owesE (c : Dev nD) (O : CellTallies nD τ sig Unit) : sProp 𝕄 := iprop(∃ W, owes (c : Thread nD τ) O W)

/-! ## The handshake -/

/-- What signal `16 - d` takes. -/
def sigRes (c : Dev nD) (d : ℕ) : sProp 𝕄 := iprop(dutyTok ER (barCell (bwd c d)) 0 (f16 d) ∗ someRv c (f16 d))
def sigInv (c : Dev nD) (k : ℕ) : sProp 𝕄 := iprop(bigSep (Finset.Ico 1 (17 - k)) (sigRes c) ∗ owesE c (Osd c 1 + Obar c (17 - k)))

theorem barPay_bwd (c : Dev nD) (n : ℕ) : (barPay (bwd c n) (f16 n) : sProp 𝕄) = someRv c (f16 n) := by
  unfold barPay
  rw [show fwd (bwd c n) (f16 n).val = c from (fwd_mod _ n).trans (fwd_bwd c n)]

theorem tri_signal (c : Dev nD) (k : ℕ) (h : 1 ≤ k) (h' : k < 16) : Tri c iprop(ctx m ∗ sigInv c k) (signal c k) ⟨⟩ (sigInv c (k + 1)) := by
  intro Q kt
  obtain ⟨n, h1, h2, h3, h4⟩ : ∃ n, 17 - k = n + 1 ∧ 17 - (k + 1) = n ∧ 16 - k = n ∧ 1 ≤ n := ⟨16 - k, by omega, by omega, rfl, by omega⟩
  unfold signal sigInv owesE
  rw [tgt_eq, fwd_eq_bwd c k h (by omega), h1, h2, h3, bigSep_Ico_succ_top h4, Obar_peel c n h4, ← add_assoc]
  simp only [semSignalWord, Prog.lift, Prog.bind_op, Prog.bind_ret, Prog.pure_eq_ret]
  unfold sigRes
  iintro ⟨#HC, ⟨⟨Ht, Hs⟩, Hr⟩, ⟨%W, HO⟩⟩ Hk
  ihave HB := (known_bar m (bwd c n)) $$ HC
  unfold Known
  icases HB with ⟨⟨%κ, #HI⟩, #HR⟩
  iapply (Rounds.wp_signal 𝒱₀ ER (rd m) (c : Thread nD τ) none (dst := (bwd c n : Thread nD τ)) (κ := κ) (r := 0)
      (d := f16 n) (by rw [duties_bar]; exact Finset.mem_erase.mpr ⟨fun e => by have := congrArg Fin.val e; simp at this; omega, Finset.mem_univ _⟩)
      ((amount_bar m (bwd c n) 0 (f16 n)).trans (by decide)) () (Osd c 1 + Obar c n) rfl) $$ [HO Ht Hs]
  · isplitr; · iexact HI
    isplitl [HO]; · iexact HO
    isplitl [Ht]; · iexact Ht
    isplitl [Hs]
    · rw [payload_bar, barPay_bwd]; iexact Hs
    · iexact HR
  iintro HO
  iapply Hk
  isplitl [Hr]; · iexact Hr
  iexists W; iexact HO

theorem tri_signals (c : Dev nD) : Tri c iprop(ctx m ∗ sigInv c 1) (loop (signal c) 15 1) ⟨⟩ (sigInv c 16) :=
  Tri.loop 15 1 fun k h1 h2 => tri_signal m c k h1 (by omega)

theorem tri_handshake (c : Dev nD) :
    Tri c iprop(ctx m ∗ cred (tallyAt (barCell c) () 15) ∗ atPos ER (barCell c) 0 ∅ 0 ∗ owesE c (Osd c 1)) (semWaitWord barS 15#32 : P F) ⟨⟩
      iprop(atPos ER (barCell c) 1 ∅ 0 ∗ owesE c (Osd c 1) ∗ bigSep (Finset.Ico 1 16) fun k => someRv (fwd c k) (f16 k)) := by
  intro Q kt
  simp only [semWaitWord, Prog.lift, Prog.bind_op, Prog.bind_ret, Prog.pure_eq_ret]
  unfold owesE
  iintro ⟨#HC, Hc, Ha, ⟨%W, HO⟩⟩ Hk
  ihave HB := (known_bar m c) $$ HC
  unfold Known ctx
  icases HC with ⟨-, #HL⟩
  icases HB with ⟨⟨%κ, #HI⟩, -⟩
  iapply (Rounds.wp_wait_rest_token 𝒱₀ ER (rd m) (c : Thread nD τ) none (κ := κ)
      (wpE_semWait_eq 𝒱₀ (c : Thread nD τ) none Set.univ) (Set.mem_univ _) () (O := Osd c 1) (W := W) (R := 0) (m := 0) (T := ∅)
      (by rw [expect_bar]; decide)) $$ [Hc HO Ha]
  · isplitr; · iexact HI
    isplitl [Hc]; · iexact Hc
    isplitl [HO]; · iexact HO
    isplitr; · iapply (mayWait_bar c 1); iexact HL
    iexact Ha
  iintro ⟨HO, Ha, -, Hp⟩
  ihave Hp' := (Entails.of_eq (rest_bar m c)) $$ Hp
  iapply Hk
  isplitl [Ha]; · iexact Ha
  isplitl [HO]
  · iexists _; iexact HO
  iexact Hp'

/-! ## Loads of the scales, and the rows widened -/

theorem tri_loadSx (c : Dev nD) : Tri c ((c : Thread nD τ).loc cc0_stg1_0 ↦{fullShare} sxstg m c) (loadS sxM) (sx m c)
    ((c : Thread nD τ).loc cc0_stg1_0 ↦{fullShare} sxstg m c) := fun Q k =>
  wp_load_rect 𝒱₀ (c : Thread nD τ) none Set.univ (m := sxM) (r := rS) (k := fun f => k (f _)) (Finset.subset_univ _)
theorem tri_loadSw (c : Dev nD) : Tri c ((c : Thread nD τ).loc cc0_stg2_0 ↦{fullShare} swstg m c) (loadS swM) (sw m c)
    ((c : Thread nD τ).loc cc0_stg2_0 ↦{fullShare} swstg m c) := fun Q k =>
  wp_load_rect 𝒱₀ (c : Thread nD τ) none Set.univ (m := swM) (r := rS) (k := fun f => k (f _)) (Finset.subset_univ _)

theorem hz : (![0, 0] : Fin 2 → Nat) = fun _ => 0 := funext fun a => by fin_cases a <;> rfl
theorem read_x (f : (cc0_stg0_0 : Ref sig .tc).ty.Contents (Elt F)) : xM.view.readAt (Elt F) rX.toLoadRect f = f :=
  Memref.readAt_unit_zero (Elt F) cc0_stg0_0 hz _ f
theorem read_xb (f : (cc0_scratch0 : Ref sig .tc).ty.Contents (Elt F)) : xbM.view.readAt (Elt F) rX.toLoadRect f = f :=
  Memref.readAt_unit_zero (Elt F) cc0_scratch0 hz _ f
theorem write_xb (f w : (cc0_scratch0 : Ref sig .tc).ty.Contents (Elt F)) : (xbM.access rX).write (Elt F) f w Finset.univ = w :=
  Memref.write_access_unit_zero_univ (Elt F) cc0_scratch0 hz _ f w

def xPts (c : Dev nD) : sProp 𝕄 := (c : Thread nD τ).loc cc0_stg0_0 ↦{fullShare} xstg m c
def xbPts (c : Dev nD) (f : (cc0_scratch0 : Ref sig .tc).ty.Contents (Elt F)) : sProp 𝕄 := (c : Thread nD τ).loc cc0_scratch0 ↦{fullShare} f

theorem tri_widen (c : Dev nD) (f : (cc0_scratch0 : Ref sig .tc).ty.Contents (Elt F)) :
    Tri c iprop(xPts m c ∗ xbPts c f) widen ⟨⟩ iprop(xPts m c ∗ xbPts c (xb m c)) := by
  intro Q k
  unfold widen loadX xPts xbPts
  simp only [Prog.lift, Prog.bind_op, Prog.bind_ret]
  iintro ⟨Hx, Hb⟩ Hk
  iapply (wp_load 𝒱₀ (c : Thread nD τ) none Set.univ (m := xM) (Finset.subset_univ _)) $$ Hx; iintro Hx
  rw [read_x]
  iapply (wp_load 𝒱₀ (c : Thread nD τ) none Set.univ (m := xbM) (Finset.subset_univ _)) $$ Hb; iintro Hb
  iapply (wp_store 𝒱₀ (c : Thread nD τ) none Set.univ (m := xbM) (r := rX) (Mk := Finset.univ) (Finset.subset_univ _)) $$ Hb; iintro Hb
  rw [write_xb]
  iapply Hk
  isplitl [Hx]; · iexact Hx
  iexact Hb

/-! ## The copies of `w`'s column blocks -/

/-- Copy semaphore of copy `k`: at its round, which is reached. -/
def cpAt (c : Dev nD) (k : ℕ) : sProp 𝕄 := iprop(atPos ER (cpCell c (f2 k)) (k / 2) ∅ 0 ∗ reached ER (cpCell c (f2 k)) (k / 2))
theorem cpAt_next (c : Dev nD) (k : ℕ) :
    (iprop(atPos ER (cpCell c (f2 k)) (k / 2 + 1) ∅ 0 ∗ reached ER (cpCell c (f2 k)) (k / 2 + 1)) : sProp 𝕄) = cpAt c (k + 2) := by
  unfold cpAt
  rw [show f2 (k + 2) = f2 k from Fin.ext (by simp), show (k + 2) / 2 = k / 2 + 1 by omega]
theorem copy_amount (p : Fin 2) : (wSlot p).view.amount (.dma (cpA p)) = N2 := rfl
theorem send_amount (d : Fin 16) : (rvSlot d).view.amount (.dma (rvA d)) = N := rfl
/-- Copy `k` under way. -/
def copying (c : Dev nD) (k : ℕ) : sProp 𝕄 := iprop(cred (tallyAt (cpCell c (f2 k)) () N2) ∗ wKept m c k)
def wAt (c : Dev nD) (k : ℕ) : sProp 𝕄 := owns (c : Thread nD τ) (wSlot (f2 k)) fullShare (wc m c k)

theorem tri_startCopy (c : Dev nD) (k : ℕ) (h : k < 16) :
    Tri c iprop(ctx m ∗ dutyTok ER (cpCell c (f2 k)) (k / 2) 0 ∗ cpAt c k ∗ someW c (f2 k) ∗ wAll m c) (startCopy c k) ⟨⟩ iprop(cpAt c k ∗ copying m c k) := by
  intro Q kt
  unfold startCopy cpAt someW copying owns
  rw [wAll_split m c k]
  unfold wLent
  simp only [Prog.lift, Prog.bind_op, Prog.bind_ret]
  iintro ⟨#HC, Ht, ⟨Ha, #HR⟩, ⟨%X, %fd, -, Hd⟩, Hl, Hw⟩ Hk
  ihave HB := (known_cp m c (f2 k)) $$ HC
  unfold Known
  icases HB with ⟨⟨%κ, #HI⟩, -⟩
  iapply (Rounds.wp_copy_pointsTo 𝒱₀ ER (rd m) (c : Thread nD τ) none (κ := κ) (r := k / 2) (d := 0)
      (q := fullShare) (fs := wv m c) (fd := fd)
      (by rw [duties_cp m c k h]; exact Finset.mem_singleton_self _) () N2 (copy_amount (f2 k)) (amount_cp m c (f2 k) _ _)
      (by
        rw [payload_cp]; unfold cpPay owns wLent
        iintro ⟨H1, H2⟩
        isplitl [H1]
        · iexists _; isplitr
          on_goal 2 => iexact H1
          ipureintro; exact View.read_write_univ _ _
        · iexact H2)) $$ [Ht Hd Hl]
  · isplitr; · iexact HI
    isplitl [Hl]; · iexact Hl
    isplitl [Hd]; · iexact Hd
    isplitl [Ht]; · iexact Ht
    iexact HR
  iintro Hc
  iapply Hk
  isplitl [Ha]
  · isplitl [Ha]; · iexact Ha
    iexact HR
  isplitl [Hc]; · iexact Hc
  iexact Hw

theorem tri_waitCopy (c : Dev nD) (k : ℕ) (h : k < 16) (j : ℕ) :
    Tri c iprop(ctx m ∗ cpAt c k ∗ copying m c k ∗ owesE c (Osd c j)) (waitCopy c k) ⟨⟩ iprop(cpAt c (k + 2) ∗ wAt m c k ∗ wAll m c ∗ owesE c (Osd c j)) := by
  intro Q kt
  rw [← cpAt_next, wAll_split m c k]
  unfold waitCopy cpAt copying owesE
  simp only [Prog.lift, Prog.bind_op, Prog.bind_ret]
  iintro ⟨#HC, ⟨Ha, -⟩, ⟨Hc, Hw⟩, ⟨%W, HO⟩⟩ Hk
  ihave HB := (known_cp m c (f2 k)) $$ HC
  unfold Known ctx
  icases HC with ⟨-, #HL⟩
  icases HB with ⟨⟨%κ, #HI⟩, -⟩
  iapply (Rounds.wp_wait_rest_token 𝒱₀ ER (rd m) (c : Thread nD τ) none (κ := κ)
      (wpE_waitDma2_eq 𝒱₀ (c : Thread nD τ) none Set.univ) (Set.mem_univ _) () (O := Osd c j) (W := W) (R := k / 2) (m := 0) (T := ∅)
      (by rw [Nat.zero_add, expect_cp m c k h])) $$ [Hc HO Ha]
  · isplitr; · iexact HI
    isplitl [Hc]; · iexact Hc
    isplitl [HO]; · iexact HO
    isplitr; · iapply (mayWait_cp c (f2 k) j); iexact HL
    iexact Ha
  iintro ⟨HO, Ha, #HR, Hp⟩
  ihave Hp' := (Entails.of_eq (rest_cp m c k h)) $$ Hp
  unfold cpPay wAt
  icases Hp' with ⟨H1, H2⟩
  iapply Hk
  isplitl [Ha]
  · isplitl [Ha]; · iexact Ha
    iexact HR
  isplitl [H1]; · iexact H1
  isplitl [H2 Hw]
  · isplitl [H2]; · iexact H2
    iexact Hw
  iexists _; iexact HO

/-! ## The products -/

theorem wSlot_set (p : Fin 2) : wbM.view.setOn (rW p).toLoadRect.set ⊆ (wSlot p).view.set :=
  subset_of_eq ((View.set_reshape _ _).trans (View.set_slice _ _)).symm
theorem chSlot_set (d : Fin 16) : chM.view.setOn (rSlot d).toLoadRect.set ⊆ (chSlot d).view.set :=
  subset_of_eq ((View.set_reshape _ _).trans (View.set_slice _ _)).symm
theorem rvSlot_set (d : Fin 16) : rvM.view.setOn (rSlot d).toLoadRect.set ⊆ (rvSlot d).view.set :=
  subset_of_eq ((View.set_reshape _ _).trans (View.set_slice _ _)).symm
theorem chSlot_stores (d : Fin 16) : (chM.access (rSlot d)).setOn Finset.univ ⊆ (chSlot d).view.set :=
  subset_of_eq (View.set_reshape _ _).symm

theorem read_wSlot (p : Fin 2) (f : (cc0_scratch1 : Ref sig .tc).ty.Contents (Elt F)) :
    shapeCast S4096x512 (wbM.view.readAt (Elt F) (rW p).toLoadRect f) shapeCasts_S1x4096x512_S4096x512 = (wSlot p).view.read (Elt F) f := rfl
theorem read_rvSlot (d : Fin 16) (f : (cc0_scratch3 : Ref sig .tc).ty.Contents (Elt F)) :
    shapeCast S256x512 (rvM.view.readAt (Elt F) (rSlot d).toLoadRect f) shapeCasts_S1x256x512_S256x512 = (rvSlot d).view.read (Elt F) f := rfl
theorem read_chSlot_write (d : Fin 16) (f : (cc0_scratch2 : Ref sig .tc).ty.Contents (Elt F)) (v : FVec F S256x512 .bf16) :
    (chSlot d).view.read (Elt F) ((chM.access (rSlot d)).write (Elt F) f (shapeCast S1x256x512 v shapeCasts_S256x512_S1x256x512) Finset.univ) = v := by
  show (fun j => (chM.access (rSlot d)).read (Elt F) ((chM.access (rSlot d)).write (Elt F) f (shapeCast S1x256x512 v shapeCasts_S256x512_S1x256x512) Finset.univ)
    (Shape.reshapeEquiv _ j)) = v
  rw [View.read_write_univ]
  funext j
  show v (Shape.reshapeEquiv _ (Shape.reshapeEquiv _ j)) = v j
  rw [Shape.reshapeEquiv_reshapeEquiv, Shape.reshapeEquiv_self]

def chAt (c : Dev nD) (k : ℕ) : sProp 𝕄 := owns (c : Thread nD τ) (chSlot (f16 k)) fullShare (yh m c k)

theorem tri_make (c : Dev nD) (k : ℕ) :
    Tri c iprop(xbPts c (xb m c) ∗ wAt m c k ∗ someCh c (f16 k)) (make k (sc m c)) ⟨⟩ iprop(xbPts c (xb m c) ∗ wAt m c k ∗ chAt m c k) := by
  intro Q kt
  unfold make loadX loadW xbPts wAt someCh chAt owns
  simp only [Prog.lift, Prog.bind_op, Prog.bind_ret]
  iintro ⟨Hb, ⟨%fw, %hw, Hw⟩, ⟨%X, %fc, -, Hc⟩⟩ Hk
  iapply (wp_load 𝒱₀ (c : Thread nD τ) none Set.univ (m := xbM) (Finset.subset_univ _)) $$ Hb; iintro Hb
  rw [read_xb]
  iapply (wp_load 𝒱₀ (c : Thread nD τ) none Set.univ (m := wbM) (r := (rW (f2 k)).toLoadRect) (wSlot_set (f2 k))) $$ Hw; iintro Hw
  rw [read_wSlot, hw]
  iapply (wp_load 𝒱₀ (c : Thread nD τ) none Set.univ (m := chM) (chSlot_set (f16 k))) $$ Hc; iintro Hc
  iapply (wp_store 𝒱₀ (c : Thread nD τ) none Set.univ (m := chM) (r := rSlot (f16 k)) (Mk := Finset.univ) (chSlot_stores (f16 k))) $$ Hc; iintro Hc
  iapply Hk
  isplitl [Hb]; · iexact Hb
  isplitl [Hw]
  · iexists fw; isplitr
    · ipureintro; exact hw
    · iexact Hw
  iexists _; isplitr
  on_goal 2 => iexact Hc
  ipureintro; exact read_chSlot_write _ _ _

/-- The result's buffer with the rows of the devices at distances below `n` right. -/
def oPts (c : Dev nD) (n : ℕ) : sProp 𝕄 := iprop(∃ g, ⌜RowsOk m c n g⌝ ∗ ((c : Thread nD τ).loc cc0_stg3_0 ↦{fullShare} g))

theorem tri_own (c : Dev nD) (g : (cc0_stg3_0 : Ref sig .tc).ty.Contents (Elt F)) :
    Tri c iprop(xbPts c (xb m c) ∗ wAt m c 0 ∗ ((c : Thread nD τ).loc cc0_stg3_0 ↦{fullShare} g)) (own c (sc m c)) ⟨⟩
      iprop(xbPts c (xb m c) ∗ wAt m c 0 ∗ oPts m c 1) := by
  intro Q kt
  unfold own loadX loadW xbPts wAt oPts owns
  simp only [Prog.lift, Prog.bind_op, Prog.bind_ret]
  iintro ⟨Hb, ⟨%fw, %hw, Hw⟩, Ho⟩ Hk
  iapply (wp_load 𝒱₀ (c : Thread nD τ) none Set.univ (m := xbM) (Finset.subset_univ _)) $$ Hb; iintro Hb
  rw [read_xb]
  iapply (wp_load 𝒱₀ (c : Thread nD τ) none Set.univ (m := wbM) (wSlot_set (f2 0))) $$ Hw; iintro Hw
  rw [read_wSlot, hw]
  iapply (wp_load 𝒱₀ (c : Thread nD τ) none Set.univ (m := oM) (Finset.subset_univ _)) $$ Ho; iintro Ho
  iapply (wp_store 𝒱₀ (c : Thread nD τ) none Set.univ (m := oM) (r := rOwn c) (Mk := Finset.univ) (Finset.subset_univ _)) $$ Ho; iintro Ho
  iapply Hk
  isplitl [Hb]; · iexact Hb
  isplitl [Hw]
  · iexists fw; isplitr
    · ipureintro; exact hw
    · iexact Hw
  iexists _; isplitr
  on_goal 2 => iexact Ho
  ipureintro; exact rowsOk_own m c g

/-! ## The sends and what arrives -/

/-- What send `k` takes beside its chunk: the target's slot and the two duties' tokens. -/
def sendRes (c : Dev nD) (k : ℕ) : sProp 𝕄 :=
  iprop(dutyTok ER (sdCell c (f16 k)) 0 0 ∗ dutyTok ER (rvCell (fwd c k) (f16 k)) 0 0 ∗ someRv (fwd c k) (f16 k))

theorem wp_send_to (c n : Dev nD) (k : ℕ) (h : 1 ≤ k) (h' : k < 16) (hn : n = fwd c k)
    {hsc : (rvSlot (f16 k) : Memref sig (Dev.tc n : Thread nD τ).2.kind .vmem S256x512 .bf16).view.ref.isScScratch = false}
    {hsrc : (chSlot (f16 k)).view.WordExact} {hdst : (rvSlot (f16 k)).view.WordExact}
    {hsem : DmaTarget.Typed .vmem (.dma (rvA (f16 k))) (.remote (Dev.tc n : Thread nD τ) (rvSlot (f16 k)) (.dma (sdA (f16 k))) hsc)}
    {Q : PUnit → sProp 𝕄} {kt : PUnit → PP F PUnit} :
    iprop(ctx m ∗ chAt m c k ∗ sendRes c k ∗ owesE c (Osd c k))
      ⊢ iprop(((cred (tallyAt (sdCell c (f16 k)) () N) ∗ owesE c (Osd c (k + 1))) -∗ WP c (kt ⟨⟩) Q)
          -∗ WP c (.op (.enqueueDma (chSlot (f16 k)) (.remote (Dev.tc n : Thread nD τ) (rvSlot (f16 k)) (.dma (sdA (f16 k))) hsc) (.dma (rvA (f16 k))) hsrc hdst hsem) kt) Q) := by
  subst hn
  unfold chAt sendRes someRv owesE owns
  rw [Osd_peel c k h']
  iintro ⟨#HC, ⟨%fs, %hs, Hs⟩, ⟨Ht1, Ht2, ⟨%X, %fd, -, Hd⟩⟩, ⟨%W, HO⟩⟩ Hk
  ihave HB1 := (known_sd m c (f16 k)) $$ HC
  ihave HB2 := (known_rv m (fwd c k) (f16 k)) $$ HC
  unfold Known
  icases HB1 with ⟨⟨%κ₁, #HI1⟩, #HR1⟩
  icases HB2 with ⟨⟨%κ₂, #HI2⟩, #HR2⟩
  iapply (Rounds.wp_send_pointsTo 𝒱₀ ER (rd m) (c : Thread nD τ) none (κ₁ := κ₁) (κ₂ := κ₂) (r₁ := 0) (r₂ := 0) (d₁ := 0) (d₂ := 0) (fd := fd)
    (by rw [duties_sd m c k h h']; exact Finset.mem_singleton_self _) (by rw [duties_rv m (fwd c k) k h h']; exact Finset.mem_singleton_self _)
    () () N (send_amount (f16 k)) (amount_sd m c (f16 k) _ _) (amount_rv m (fwd c k) (f16 k) _ _) (Osd c (k + 1)) rfl (W := W)
    (by
      rw [payload_sd m c k h']; unfold sdPay owns
      iintro H; iexists fs; isplitr
      · ipureintro; exact hs
      · iexact H)
    (by
      rw [payload_rv m (fwd c k) k h', hs]; unfold rvPay owns; rw [bwd_fwd]
      iintro H; iexists _; isplitr
      on_goal 2 => iexact H
      ipureintro; exact View.read_write_univ _ _)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  iapply Hk
  isplitl [Hc]; · iexact Hc
  iexists W; iexact HO

theorem tri_send (c : Dev nD) (k : ℕ) (h : 1 ≤ k) (h' : k < 16) :
    Tri c iprop(ctx m ∗ chAt m c k ∗ sendRes c k ∗ owesE c (Osd c k)) (send c k) ⟨⟩ iprop(cred (tallyAt (sdCell c (f16 k)) () N) ∗ owesE c (Osd c (k + 1))) :=
  fun Q kt => by
    unfold send
    simp only [Prog.lift, Prog.bind_op, Prog.bind_ret]
    exact wp_send_to m c (tgt c (f16 k)) k h h' (tgt_eq c k)

/-- What receipt `k` takes and leaves. -/
def recvPre (c : Dev nD) (k : ℕ) : sProp 𝕄 := iprop(cred (tallyAt (rvCell c (f16 k)) () N) ∗ atPos ER (rvCell c (f16 k)) 0 ∅ 0)
def recvPost (c : Dev nD) (k : ℕ) : sProp 𝕄 := iprop(atPos ER (rvCell c (f16 k)) 1 ∅ 0 ∗ someRv c (f16 k))

theorem tri_recv (c : Dev nD) (k : ℕ) (h : 1 ≤ k) (h' : k < 16) :
    Tri c iprop(ctx m ∗ recvPre c k ∗ owesE c (Osd c 16) ∗ oPts m c k) (recv c k) ⟨⟩ iprop(recvPost c k ∗ owesE c (Osd c 16) ∗ oPts m c (k + 1)) := by
  intro Q kt
  unfold recv recvPre recvPost owesE oPts someRv
  simp only [Prog.lift, Prog.bind_op, Prog.bind_ret]
  iintro ⟨#HC, ⟨Hc, Ha⟩, ⟨%W, HO⟩, ⟨%g, %hg, Ho⟩⟩ Hk
  ihave HB := (known_rv m c (f16 k)) $$ HC
  unfold Known ctx
  icases HC with ⟨-, #HL⟩
  icases HB with ⟨⟨%κ, #HI⟩, -⟩
  iapply (Rounds.wp_wait_rest_token 𝒱₀ ER (rd m) (c : Thread nD τ) none (κ := κ)
      (wpE_waitDma2_eq 𝒱₀ (c : Thread nD τ) none Set.univ) (Set.mem_univ _) () (O := Osd c 16) (W := W) (R := 0) (m := 0) (T := ∅)
      (by rw [Nat.zero_add, expect_rv m c k h h'])) $$ [Hc HO Ha]
  · isplitr; · iexact HI
    isplitl [Hc]; · iexact Hc
    isplitl [HO]; · iexact HO
    isplitr; · iapply (mayWait_end c _); iexact HL
    iexact Ha
  iintro ⟨HO, Ha, -, Hp⟩
  ihave Hp' := (Entails.of_eq (rest_rv m c k h h')) $$ Hp
  unfold rvPay owns
  icases Hp' with ⟨%f, %hf, Hr⟩
  iapply (wp_load 𝒱₀ (c : Thread nD τ) none Set.univ (m := rvM) (rvSlot_set (f16 k))) $$ Hr; iintro Hr
  rw [read_rvSlot, hf]
  iapply (wp_load 𝒱₀ (c : Thread nD τ) none Set.univ (m := oM) (Finset.subset_univ _)) $$ Ho; iintro Ho
  iapply (wp_store 𝒱₀ (c : Thread nD τ) none Set.univ (m := oM) (r := rRow c (g15 k)) (Mk := Finset.univ) (Finset.subset_univ _)) $$ Ho; iintro Ho
  iapply Hk
  isplitl [Ha Hr]
  · isplitl [Ha]; · iexact Ha
    iexists _; iexists f; isplitr
    · ipureintro; exact hf
    · iexact Hr
  isplitl [HO]
  · iexists _; iexact HO
  iexists _; isplitr
  on_goal 2 => iexact Ho
  ipureintro; exact rowsOk_recv m c k h h' g hg

/-- What drain `k` takes and leaves. -/
def drainPre (c : Dev nD) (k : ℕ) : sProp 𝕄 := iprop(cred (tallyAt (sdCell c (f16 k)) () N) ∗ atPos ER (sdCell c (f16 k)) 0 ∅ 0)
def drainPost (c : Dev nD) (k : ℕ) : sProp 𝕄 := iprop(atPos ER (sdCell c (f16 k)) 1 ∅ 0 ∗ someCh c (f16 k))

theorem tri_drain (c : Dev nD) (k : ℕ) (h : 1 ≤ k) (h' : k < 16) :
    Tri c iprop(ctx m ∗ drainPre c k ∗ owesE c (Osd c 16)) (drain k) ⟨⟩ iprop(drainPost c k ∗ owesE c (Osd c 16)) := by
  intro Q kt
  unfold drain drainPre drainPost owesE someCh
  simp only [Prog.lift, Prog.bind_op, Prog.bind_ret]
  iintro ⟨#HC, ⟨Hc, Ha⟩, ⟨%W, HO⟩⟩ Hk
  ihave HB := (known_sd m c (f16 k)) $$ HC
  unfold Known ctx
  icases HC with ⟨-, #HL⟩
  icases HB with ⟨⟨%κ, #HI⟩, -⟩
  iapply (Rounds.wp_wait_rest_token 𝒱₀ ER (rd m) (c : Thread nD τ) none (κ := κ)
      (wpE_waitDma2_eq 𝒱₀ (c : Thread nD τ) none Set.univ) (Set.mem_univ _) () (O := Osd c 16) (W := W) (R := 0) (m := 0) (T := ∅)
      (by rw [Nat.zero_add, expect_sd m c k h h'])) $$ [Hc HO Ha]
  · isplitr; · iexact HI
    isplitl [Hc]; · iexact Hc
    isplitl [HO]; · iexact HO
    isplitr; · iapply (mayWait_end c _); iexact HL
    iexact Ha
  iintro ⟨HO, Ha, -, Hp⟩
  ihave Hp' := (Entails.of_eq (rest_sd m c k h h')) $$ Hp
  unfold sdPay
  iapply Hk
  isplitl [Ha Hp']
  · isplitl [Ha]; · iexact Ha
    iexists _; iexact Hp'
  iexists _; iexact HO

end Cert.KernelIdeal.Run

end
-- ==== Proof.KernelIdeal.Whole.lean ====
/-
The steps one after the other: what device `c`'s body takes and what it leaves.
-/
module

public import proofs.«01_k».proof.Proof.KernelIdeal.Steps

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The sends' loop -/

def cpTok (c : Dev nD) (k : ℕ) : sProp 𝕄 := dutyTok ER (cpCell c (f2 k)) (k / 2) 0
def sdCred (c : Dev nD) (k : ℕ) : sProp 𝕄 := cred (tallyAt (sdCell c (f16 k)) () N)
def chunkRes (c : Dev nD) (k : ℕ) : sProp 𝕄 := iprop(someCh c (f16 k) ∗ sendRes c k)

/-- Before send `k`: copy `k` under way, the other slot of `w` free, the chunks from `k` on still to make. -/
def stepInv (c : Dev nD) (k : ℕ) : sProp 𝕄 :=
  iprop(xbPts c (xb m c) ∗ copying m c k ∗ someW c (f2 (k + 1)) ∗ cpAt c k ∗ cpAt c (k + 1)
    ∗ bigSep (Finset.Ico (k + 1) 16) (cpTok c) ∗ bigSep (Finset.Ico k 16) (chunkRes c) ∗ bigSep (Finset.Ico 1 k) (sdCred c) ∗ owesE c (Osd c k))

theorem someW_of (c : Dev nD) (k : ℕ) : wAt m c k ⊢ someW c (f2 (k + 2)) := by
  rw [show f2 (k + 2) = f2 k from Fin.ext (by simp)]
  unfold wAt someW
  iintro H; iexists _; iexact H

theorem tri_step (c : Dev nD) (k : ℕ) (h : 1 ≤ k) (h' : k < 15) :
    Tri c iprop(ctx m ∗ stepInv m c k) (step c (sc m c) k) ⟨⟩ (stepInv m c (k + 1)) := by
  intro Q kt
  unfold step stepInv
  rw [bigSep_Ico_succ_bot (a := k + 1) (b := 16) (by omega), bigSep_Ico_succ_bot (a := k) (b := 16) (by omega), bigSep_Ico_succ_top h]
  simp only [Prog.bind_assoc]
  iintro ⟨#HC, Hb, Hcp, Hw, Ha, Ha', ⟨Ht, Hts⟩, ⟨Hr, Hrs⟩, Hcs, HO⟩ Hk
  iapply (tri_waitCopy m c k (by omega) k Q _) $$ [Ha Hcp HO]
  · isplitr; · iexact HC
    isplitl [Ha]; · iexact Ha
    isplitl [Hcp]; · iexact Hcp
    iexact HO
  iintro ⟨Ha, Hwk, Hall, HO⟩
  unfold cpTok
  iapply (tri_startCopy m c (k + 1) (by omega) Q _) $$ [Ht Ha' Hw Hall]
  · isplitr; · iexact HC
    isplitl [Ht]; · iexact Ht
    isplitl [Ha']; · iexact Ha'
    isplitl [Hw]; · iexact Hw
    iexact Hall
  iintro ⟨Ha', Hcp⟩
  unfold chunkRes
  icases Hr with ⟨Hch, Hr⟩
  iapply (tri_make m c k Q _) $$ [Hb Hwk Hch]
  · isplitl [Hb]; · iexact Hb
    isplitl [Hwk]; · iexact Hwk
    iexact Hch
  iintro ⟨Hb, Hwk, Hch⟩
  iapply (tri_send m c k h (by omega) Q _) $$ [Hch Hr HO]
  · isplitr; · iexact HC
    isplitl [Hch]; · iexact Hch
    isplitl [Hr]; · iexact Hr
    iexact HO
  iintro ⟨Hc, HO⟩
  ihave Hw := (someW_of m c k) $$ Hwk
  iapply Hk
  isplitl [Hb]; · iexact Hb
  isplitl [Hcp]; · iexact Hcp
  isplitl [Hw]; · iexact Hw
  isplitl [Ha']; · iexact Ha'
  isplitl [Ha]; · iexact Ha
  isplitl [Hts]; · iexact Hts
  isplitl [Hrs]; · iexact Hrs
  isplitl [Hc Hcs]
  · isplitl [Hc]; · unfold sdCred; iexact Hc
    iexact Hcs
  iexact HO

theorem tri_sends (c : Dev nD) : Tri c iprop(ctx m ∗ stepInv m c 1) (loop (step c (sc m c)) 14 1) ⟨⟩ (stepInv m c 15) :=
  Tri.loop 14 1 fun k h1 h2 => tri_step m c k h1 (by omega)

/-! ## The receipts' and the drains' loops -/

def recvInv (c : Dev nD) (k : ℕ) : sProp 𝕄 :=
  iprop(bigSep (Finset.Ico k 16) (recvPre c) ∗ bigSep (Finset.Ico 1 k) (recvPost c) ∗ owesE c (Osd c 16) ∗ oPts m c k)
def drainInv (c : Dev nD) (k : ℕ) : sProp 𝕄 :=
  iprop(bigSep (Finset.Ico k 16) (drainPre c) ∗ bigSep (Finset.Ico 1 k) (drainPost c) ∗ owesE c (Osd c 16))

theorem tri_recvs (c : Dev nD) : Tri c iprop(ctx m ∗ recvInv m c 1) (loop (recv c) 15 1) ⟨⟩ (recvInv m c 16) :=
  Tri.loop 15 1 fun k h1 h2 => by
    intro Q kt
    unfold recvInv
    rw [bigSep_Ico_succ_bot (a := k) (b := 16) (by omega), bigSep_Ico_succ_top h1]
    iintro ⟨#HC, ⟨Hp, Hps⟩, Hd, HO, Ho⟩ Hk
    iapply (tri_recv m c k h1 (by omega) Q _) $$ [Hp HO Ho]
    · isplitr; · iexact HC
      isplitl [Hp]; · iexact Hp
      isplitl [HO]; · iexact HO
      iexact Ho
    iintro ⟨Hp, HO, Ho⟩
    iapply Hk
    isplitl [Hps]; · iexact Hps
    isplitl [Hp Hd]
    · isplitl [Hp]; · iexact Hp
      iexact Hd
    isplitl [HO]; · iexact HO
    iexact Ho

theorem tri_drains (c : Dev nD) : Tri c iprop(ctx m ∗ drainInv c 1) (loop drain 15 1) ⟨⟩ (drainInv c 16) :=
  Tri.loop 15 1 fun k h1 h2 => by
    intro Q kt
    unfold drainInv
    rw [bigSep_Ico_succ_bot (a := k) (b := 16) (by omega), bigSep_Ico_succ_top h1]
    iintro ⟨#HC, ⟨Hp, Hps⟩, Hd, HO⟩ Hk
    iapply (tri_drain m c k h1 (by omega) Q _) $$ [Hp HO]
    · isplitr; · iexact HC
      isplitl [Hp]; · iexact Hp
      iexact HO
    iintro ⟨Hp, HO⟩
    iapply Hk
    isplitl [Hps]; · iexact Hps
    isplitl [Hp Hd]
    · isplitl [Hp]; · iexact Hp
      iexact Hd
    iexact HO

/-! ## All of it -/

/-- The three input windows' staging buffers. -/
def ins (c : Dev nD) : sProp 𝕄 :=
  iprop(xPts m c ∗ ((c : Thread nD τ).loc cc0_stg1_0 ↦{fullShare} sxstg m c) ∗ ((c : Thread nD τ).loc cc0_stg2_0 ↦{fullShare} swstg m c))
/-- The chunk's slots and their tokens, the targets' slots still to come. -/
def chunkOwn (c : Dev nD) (k : ℕ) : sProp 𝕄 :=
  iprop(someCh c (f16 k) ∗ dutyTok ER (sdCell c (f16 k)) 0 0 ∗ dutyTok ER (rvCell (fwd c k) (f16 k)) 0 0)
def sdPos (c : Dev nD) (k : ℕ) : sProp 𝕄 := atPos ER (sdCell c (f16 k)) 0 ∅ 0

def bodyIn (c : Dev nD) : sProp 𝕄 :=
  iprop(ins m c ∗ (∃ g, (c : Thread nD τ).loc cc0_stg3_0 ↦{fullShare} g) ∗ (∃ f, xbPts c f)
    ∗ sigInv c 1 ∗ cred (tallyAt (barCell c) () 15) ∗ atPos ER (barCell c) 0 ∅ 0
    ∗ bigSep (Finset.Ico 0 16) (cpTok c) ∗ someW c 0 ∗ someW c 1 ∗ cpAt c 0 ∗ cpAt c 1 ∗ wAll m c
    ∗ bigSep (Finset.Ico 1 16) (chunkOwn c) ∗ bigSep (Finset.Ico 1 16) (recvPre c) ∗ bigSep (Finset.Ico 1 16) (sdPos c))
def bodyOut (c : Dev nD) : sProp 𝕄 :=
  iprop(ins m c ∗ oPts m c 16 ∗ (∃ f, xbPts c f) ∗ atPos ER (barCell c) 1 ∅ 0
    ∗ someW c 0 ∗ someW c 1 ∗ cpAt c 16 ∗ cpAt c 17 ∗ wAll m c
    ∗ bigSep (Finset.Ico 1 16) (recvPost c) ∗ bigSep (Finset.Ico 1 16) (drainPost c) ∗ owesE c 0)

theorem chunks_merge (c : Dev nD) :
    iprop(bigSep (Finset.Ico 1 16) (chunkOwn c) ∗ bigSep (Finset.Ico 1 16) fun k => someRv (fwd c k) (f16 k))
      ⊢ (bigSep (Finset.Ico 1 16) (chunkRes c) : sProp 𝕄) := by
  rw [← bigSep_sep']
  have h (k : ℕ) : iprop(chunkOwn c k ∗ someRv (fwd c k) (f16 k)) ⊢ (chunkRes c k : sProp 𝕄) := by
   unfold chunkOwn chunkRes sendRes
   iintro ⟨⟨H1, H2, H3⟩, H4⟩
   isplitl [H1]; · iexact H1
   isplitl [H2]; · iexact H2
   isplitl [H3]; · iexact H3
   iexact H4
  exact bigSep_mono fun k _ => h k

theorem drains_merge (c : Dev nD) :
    iprop(bigSep (Finset.Ico 1 16) (sdPos c) ∗ bigSep (Finset.Ico 1 16) (sdCred c)) ⊢ (bigSep (Finset.Ico 1 16) (drainPre c) : sProp 𝕄) := by
  rw [← bigSep_sep']
  have h (k : ℕ) : iprop(sdPos c k ∗ sdCred c k) ⊢ (drainPre c k : sProp 𝕄) := by
   unfold sdPos sdCred drainPre
   iintro ⟨H1, H2⟩
   isplitl [H2]; · iexact H2
   iexact H1
  exact bigSep_mono fun k _ => h k

theorem wp_steps (c : Dev nD) (Q : PUnit → sProp 𝕄) :
    iprop(ctx m ∗ bodyIn m c) ⊢ iprop((bodyOut m c -∗ WP c (.ret ⟨⟩) Q) -∗ WP c steps Q) := by
  unfold steps bodyIn ins
  simp only [Prog.lift, Prog.bind_op, Prog.bind_ret, wp_deviceId]
  iintro ⟨#HC, ⟨Hx, Hsx, Hsw⟩, ⟨%g, Ho⟩, ⟨%f, Hb⟩, Hs, Hcr, Hat, Ht, Hw0, Hw1, Ha0, Ha1, Hall, Hch, Hrv, Hsd⟩ Hk
  iapply (tri_signals m c Q _) $$ [Hs]
  · isplitr; · iexact HC
    iexact Hs
  unfold sigInv
  rw [show 17 - 16 = 1 from rfl, Obar_one, add_zero]
  iintro ⟨-, HO⟩
  iapply (tri_handshake m c Q _) $$ [Hcr Hat HO]
  · isplitr; · iexact HC
    isplitl [Hcr]; · iexact Hcr
    isplitl [Hat]; · iexact Hat
    iexact HO
  iintro ⟨Hat, HO, Hpeer⟩
  ihave Hch := (chunks_merge c) $$ [Hch Hpeer]
  · isplitl [Hch]; · iexact Hch
    iexact Hpeer
  iapply (tri_loadSx m c Q _) $$ Hsx; iintro Hsx
  iapply (tri_loadSw m c Q _) $$ Hsw; iintro Hsw
  iapply (tri_widen m c f Q _) $$ [Hx Hb]
  · isplitl [Hx]; · iexact Hx
    iexact Hb
  iintro ⟨Hx, Hb⟩
  ihave Ht := (Entails.of_eq (bigSep_Ico_succ_bot (a := 0) (b := 16) (by decide) _)) $$ Ht
  icases Ht with ⟨Ht0, Ht⟩
  ihave Ht := (Entails.of_eq (bigSep_Ico_succ_bot (a := 0 + 1) (b := 16) (by decide) _)) $$ Ht
  icases Ht with ⟨Ht1, Ht⟩
  unfold cpTok
  iapply (tri_startCopy m c 0 (by decide) Q _) $$ [Ht0 Ha0 Hw0 Hall]
  · isplitr; · iexact HC
    isplitl [Ht0]; · iexact Ht0
    isplitl [Ha0]; · iexact Ha0
    isplitl [Hw0]; · iexact Hw0
    iexact Hall
  iintro ⟨Ha0, Hcp⟩
  iapply (tri_waitCopy m c 0 (by decide) 1 Q _) $$ [Ha0 Hcp HO]
  · isplitr; · iexact HC
    isplitl [Ha0]; · iexact Ha0
    isplitl [Hcp]; · iexact Hcp
    iexact HO
  iintro ⟨Ha0, Hwk, Hall, HO⟩
  iapply (tri_startCopy m c 1 (by decide) Q _) $$ [Ht1 Ha1 Hw1 Hall]
  · isplitr; · iexact HC
    isplitl [Ht1]; · iexact Ht1
    isplitl [Ha1]; · iexact Ha1
    isplitl [Hw1]; · iexact Hw1
    iexact Hall
  iintro ⟨Ha1, Hcp⟩
  iapply (tri_own m c g Q _) $$ [Hb Hwk Ho]
  · isplitl [Hb]; · iexact Hb
    isplitl [Hwk]; · iexact Hwk
    iexact Ho
  iintro ⟨Hb, Hwk, Ho⟩
  ihave Hw0 := (someW_of m c 0) $$ Hwk
  iapply (tri_sends m c Q _) $$ [Hb Hcp Hw0 Ha1 Ha0 Ht Hch HO]
  · isplitr; · iexact HC
    unfold stepInv
    isplitl [Hb]; · iexact Hb
    isplitl [Hcp]; · iexact Hcp
    isplitl [Hw0]; · iexact Hw0
    isplitl [Ha1]; · iexact Ha1
    isplitl [Ha0]; · iexact Ha0
    isplitl [Ht]; · iexact Ht
    isplitl [Hch]; · iexact Hch
    isplitr; · rw [Finset.Ico_self, bigSep_empty]; iempintro
    iexact HO
  unfold stepInv
  iintro ⟨Hb, Hcp, Hw0, Ha1, Ha0, -, Hch, Hcs, HO⟩
  iapply (tri_waitCopy m c 15 (by decide) 15 Q _) $$ [Ha1 Hcp HO]
  · isplitr; · iexact HC
    isplitl [Ha1]; · iexact Ha1
    isplitl [Hcp]; · iexact Hcp
    iexact HO
  iintro ⟨Ha1, Hwk, Hall, HO⟩
  ihave Hch := (Entails.of_eq (bigSep_Ico_succ_bot (a := 15) (b := 16) (by decide) _)) $$ Hch
  icases Hch with ⟨Hr, -⟩
  unfold chunkRes
  icases Hr with ⟨Hch, Hr⟩
  iapply (tri_make m c 15 Q _) $$ [Hb Hwk Hch]
  · isplitl [Hb]; · iexact Hb
    isplitl [Hwk]; · iexact Hwk
    iexact Hch
  iintro ⟨Hb, Hwk, Hch⟩
  ihave Hw1 := (someW_of m c 15) $$ Hwk
  iapply (tri_send m c 15 (by decide) (by decide) Q _) $$ [Hch Hr HO]
  · isplitr; · iexact HC
    isplitl [Hch]; · iexact Hch
    isplitl [Hr]; · iexact Hr
    iexact HO
  iintro ⟨Hc, HO⟩
  iapply (tri_recvs m c Q _) $$ [Hrv HO Ho]
  · isplitr; · iexact HC
    unfold recvInv
    isplitl [Hrv]; · iexact Hrv
    isplitr; · rw [Finset.Ico_self, bigSep_empty]; iempintro
    isplitl [HO]; · iexact HO
    iexact Ho
  unfold recvInv
  iintro ⟨-, Hrv, HO, Ho⟩
  ihave Hdr := (drains_merge c) $$ [Hsd Hc Hcs]
  · isplitl [Hsd]; · iexact Hsd
    iapply (Entails.of_eq (bigSep_Ico_succ_top (a := 1) (b := 15) (by decide) (sdCred c)).symm)
    unfold sdCred
    isplitl [Hc]; · iexact Hc
    iexact Hcs
  rw [← Prog.bind_pure (loop drain 15 1)]
  iapply (tri_drains m c Q _) $$ [Hdr HO]
  · isplitr; · iexact HC
    unfold drainInv
    isplitl [Hdr]; · iexact Hdr
    isplitr; · rw [Finset.Ico_self, bigSep_empty]; iempintro
    iexact HO
  unfold drainInv
  rw [Osd_end]
  iintro ⟨-, Hdr, HO⟩
  iapply Hk
  unfold bodyOut ins
  isplitl [Hx Hsx Hsw]
  · isplitl [Hx]; · iexact Hx
    isplitl [Hsx]; · iexact Hsx
    iexact Hsw
  isplitl [Ho]; · iexact Ho
  isplitl [Hb]; · iexists _; iexact Hb
  isplitl [Hat]; · iexact Hat
  isplitl [Hw0]; · iexact Hw0
  isplitl [Hw1]; · iexact Hw1
  isplitl [Ha0]; · iexact Ha0
  isplitl [Ha1]; · iexact Ha1
  isplitl [Hall]; · iexact Hall
  isplitl [Hrv]; · iexact Hrv
  isplitl [Hdr]; · iexact Hdr
  iexact HO

end Cert.KernelIdeal.Run

end
-- ==== Proof.KernelIdeal.Slots.lean ====
/-
The scratch buffers by slots, a device's cells by kind, and the cells closed at the end.
-/
module

public import proofs.«01_k».proof.Proof.KernelIdeal.Whole
public import Idealize.ShloMosaic.Lib.Ring

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Slots -/

section Blocks
variable {n : ℕ} {ℓ : Loc nD τ sig} (I : Fin n → Finset (Idx ℓ)) (key : Idx ℓ → Fin n) (h : ∀ d i, i ∈ I d ↔ key i = d)

include h in
theorem blocks_disjoint (b b' : Fin n) (hb : b ≠ b') : Disjoint (I b) (I b') :=
  Finset.disjoint_left.mpr fun i hi hj => hb (((h b i).1 hi).symm.trans ((h b' i).1 hj))
include h in
theorem blocks_cover : Finset.univ.biUnion I = Finset.univ :=
  Finset.eq_univ_of_forall fun i => Finset.mem_biUnion.mpr ⟨key i, Finset.mem_univ _, (h _ i).2 rfl⟩

include h in
theorem blocks_split : (iprop(∃ f, ℓ ↦{fullShare} f) : sProp 𝕄) ⊢ bigSep Finset.univ fun d => iprop(∃ f, ℓ ↦[I d]{fullShare} f) := by
  have h1 (f : Buf (Elt F) ℓ) (d : Fin n) : (ℓ ↦[I d]{fullShare} f : sProp 𝕄) ⊢ iprop(∃ f, ℓ ↦[I d]{fullShare} f) := by
    iintro H; iexists f; iexact H
  iintro ⟨%f, H⟩
  iapply ((Entails.of_eq (Ring.pointsTo_blocks I (blocks_disjoint I key h) (blocks_cover I key h) f)).trans (bigSep_mono fun d _ => h1 f d))
  iexact H
include h in
theorem blocks_join (f₀ : Buf (Elt F) ℓ) :
    (bigSep Finset.univ fun d => iprop(∃ f, ℓ ↦[I d]{fullShare} f)) ⊢ (iprop(∃ f, ℓ ↦{fullShare} f) : sProp 𝕄) :=
  Ring.pointsTo_blocks_join_exists I (blocks_disjoint I key h) (blocks_cover I key h) f₀
end Blocks

/-- A slot held at some contents is its elements held at some contents. -/
theorem some_owns {sp : Space} {s : Shape} {e : EltTy} (c : Dev nD) (v : Memref sig .tc sp s e) :
    (iprop(∃ X, owns (c : Thread nD τ) v fullShare X) : sProp 𝕄) = iprop(∃ f, v.view.loc (c : Thread nD τ) ↦[v.view.set]{fullShare} f) := by
  have h1 : (iprop(∃ X, owns (c : Thread nD τ) v fullShare X) : sProp 𝕄) ⊢ iprop(∃ f, v.view.loc (c : Thread nD τ) ↦[v.view.set]{fullShare} f) := by
    unfold owns; iintro ⟨%X, %f, -, H⟩; iexists f; iexact H
  have h2 : (iprop(∃ f, v.view.loc (c : Thread nD τ) ↦[v.view.set]{fullShare} f) : sProp 𝕄) ⊢ iprop(∃ X, owns (c : Thread nD τ) v fullShare X) := by
    unfold owns; iintro ⟨%f, H⟩; iexists _; iexists f; isplitr; · (ipureintro; rfl)
    iexact H
  exact BI.equiv_iff.mp ⟨h1, h2⟩

theorem mem_slot (d : Fin 16) (i : S16x256x512.Idx) : i ∈ (rSlot d).set ↔ (i 0 : Fin 16) = d := by
  rw [Rect.mem_set_unit]
  constructor
  · intro h; have h0 := h 0
    exact Fin.ext (by have h1 : d.val ≤ (i 0).val := h0.1; have h2 : (i 0).val < d.val + 1 := h0.2; omega)
  · rintro h a
    have h1 : (i 0).val = d.val := congrArg Fin.val h
    have h2 : (i 1).val < 256 := (i 1).isLt
    have h3 : (i 2).val < 512 := (i 2).isLt
    fin_cases a
    · exact ⟨le_of_eq h1.symm, by show (i 0).val < d.val + 1; omega⟩
    · exact ⟨Nat.zero_le _, by show (i 1).val < 0 + 256; omega⟩
    · exact ⟨Nat.zero_le _, by show (i 2).val < 0 + 512; omega⟩
theorem mem_wslot (d : Fin 2) (i : S2x4096x512.Idx) : i ∈ (rW d).set ↔ (i 0 : Fin 2) = d := by
  rw [Rect.mem_set_unit]
  constructor
  · intro h; have h0 := h 0
    exact Fin.ext (by have h1 : d.val ≤ (i 0).val := h0.1; have h2 : (i 0).val < d.val + 1 := h0.2; omega)
  · rintro h a
    have h1 : (i 0).val = d.val := congrArg Fin.val h
    have h2 : (i 1).val < 4096 := (i 1).isLt
    have h3 : (i 2).val < 512 := (i 2).isLt
    fin_cases a
    · exact ⟨le_of_eq h1.symm, by show (i 0).val < d.val + 1; omega⟩
    · exact ⟨Nat.zero_le _, by show (i 1).val < 0 + 4096; omega⟩
    · exact ⟨Nat.zero_le _, by show (i 2).val < 0 + 512; omega⟩

theorem rvSlot_elems (d : Fin 16) : (rvSlot d).view.set = (rSlot d).set := (View.set_reshape _ _).trans (View.set_slice_whole _ _)
theorem chSlot_elems (d : Fin 16) : (chSlot d).view.set = (rSlot d).set := (View.set_reshape _ _).trans (View.set_slice_whole _ _)
theorem wSlot_elems (d : Fin 2) : (wSlot d).view.set = (rW d).set := (View.set_reshape _ _).trans (View.set_slice_whole _ _)

def rvAny (c : Dev nD) : sProp 𝕄 := iprop(∃ f : Buf (Elt F) ((c : Thread nD τ).loc cc0_scratch3), ((c : Thread nD τ).loc cc0_scratch3) ↦{fullShare} f)
def chAny (c : Dev nD) : sProp 𝕄 := iprop(∃ f : Buf (Elt F) ((c : Thread nD τ).loc cc0_scratch2), ((c : Thread nD τ).loc cc0_scratch2) ↦{fullShare} f)
def wAny (c : Dev nD) : sProp 𝕄 := iprop(∃ f : Buf (Elt F) ((c : Thread nD τ).loc cc0_scratch1), ((c : Thread nD τ).loc cc0_scratch1) ↦{fullShare} f)

theorem someRv_eq (c : Dev nD) : (someRv (F := F) c) = fun d => iprop(∃ f, ((c : Thread nD τ).loc cc0_scratch3) ↦[(rSlot d).set]{fullShare} f) := by
  funext d; unfold someRv; rw [some_owns, rvSlot_elems]
theorem someCh_eq (c : Dev nD) : (someCh (F := F) c) = fun d => iprop(∃ f, ((c : Thread nD τ).loc cc0_scratch2) ↦[(rSlot d).set]{fullShare} f) := by
  funext d; unfold someCh; rw [some_owns, chSlot_elems]
theorem someW_eq (c : Dev nD) : (someW (F := F) c) = fun d => iprop(∃ f, ((c : Thread nD τ).loc cc0_scratch1) ↦[(rW d).set]{fullShare} f) := by
  funext d; unfold someW; rw [some_owns, wSlot_elems]

theorem rv_split (c : Dev nD) : (rvAny c : sProp 𝕄) ⊢ bigSep Finset.univ (someRv c) := by
  rw [someRv_eq]
  exact blocks_split (ℓ := (c : Thread nD τ).loc cc0_scratch3) (fun d => (rSlot d).set) (fun i => i 0) mem_slot
include m in
theorem rv_join (c : Dev nD) : bigSep Finset.univ (someRv c) ⊢ (rvAny c : sProp 𝕄) := by
  rw [someRv_eq]
  exact blocks_join (ℓ := (c : Thread nD τ).loc cc0_scratch3) (fun d => (rSlot d).set) (fun i => i 0) mem_slot (m _)
theorem ch_split (c : Dev nD) : (chAny c : sProp 𝕄) ⊢ bigSep Finset.univ (someCh c) := by
  rw [someCh_eq]
  exact blocks_split (ℓ := (c : Thread nD τ).loc cc0_scratch2) (fun d => (rSlot d).set) (fun i => i 0) mem_slot
include m in
theorem ch_join (c : Dev nD) : bigSep Finset.univ (someCh c) ⊢ (chAny c : sProp 𝕄) := by
  rw [someCh_eq]
  exact blocks_join (ℓ := (c : Thread nD τ).loc cc0_scratch2) (fun d => (rSlot d).set) (fun i => i 0) mem_slot (m _)
theorem w_split (c : Dev nD) : (wAny c : sProp 𝕄) ⊢ bigSep Finset.univ (someW c) := by
  rw [someW_eq]
  exact blocks_split (ℓ := (c : Thread nD τ).loc cc0_scratch1) (fun d => (rW d).set) (fun i => i 0) mem_wslot
include m in
theorem w_join (c : Dev nD) : bigSep Finset.univ (someW c) ⊢ (wAny c : sProp 𝕄) := by
  rw [someW_eq]
  exact blocks_join (ℓ := (c : Thread nD τ).loc cc0_scratch1) (fun d => (rW d).set) (fun i => i 0) mem_wslot (m _)

/-! ## Over all slots, both copy semaphores, all cells -/

theorem bigSep_zero_pos (Φ : Fin 16 → sProp 𝕄) : bigSep Finset.univ Φ = iprop(Φ 0 ∗ bigSep (Finset.Ico 1 16) fun k => Φ (f16 k)) := by
  rw [bigSep_slots, bigSep_Ico_succ_bot (by decide)]; rfl
theorem bigSep_two (Φ : Fin 2 → sProp 𝕄) : bigSep Finset.univ Φ = iprop(Φ 0 ∗ Φ 1) :=
  bigSep_univ_eq_bigSepL [0, 1] (by decide) (by decide) Φ
theorem bigSep_cells (Φ : CK → sProp 𝕄) :
    bigSep Finset.univ Φ = iprop(Φ (.inl ()) ∗ (Φ (.inr (.inl 0)) ∗ Φ (.inr (.inl 1)))
      ∗ (bigSep Finset.univ fun d => Φ (.inr (.inr (.inl d)))) ∗ bigSep Finset.univ fun d => Φ (.inr (.inr (.inr d)))) := by
  have h := bigSep_univ_sum Φ
  rw [h, bigSep_univ_sum, bigSep_univ_sum, bigSep_two (fun p => Φ (.inr (.inl p))), show (Finset.univ : Finset Unit) = {()} from rfl, bigSep_singleton]
  rfl

/-! ## Closing -/

/-- What is done under a fact all share. -/
theorem bigSep_under {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

/-- The round each of a device's semaphores ends in. -/
def lastR : CK → ℕ
  | .inl _ => 1
  | .inr (.inl _) => 8
  | .inr (.inr (.inl d)) => if d.val = 0 then 0 else 1
  | .inr (.inr (.inr d)) => if d.val = 0 then 0 else 1

theorem later (c : Dev nD) : ∀ ck : CK, ∀ r, lastR ck ≤ r → (rd (F := F) m).duties (kcell (c, ck)) r = ∅
  | .inl _ => later_bar m c
  | .inr (.inl p) => later_cp m c p
  | .inr (.inr (.inl d)) => later_sd m c d
  | .inr (.inr (.inr d)) => later_rv m c d

theorem close_one (c : Dev nD) (ck : CK) :
    iprop(ctx m ∗ atPos ER (kcell (c, ck)) (lastR ck) ∅ 0) ⊢ (iprop(|={Set.univ}=> semVal (kcell (c, ck)) 0) : sProp 𝕄) := by
  iintro ⟨#HC, Ha⟩
  ihave HB := (known m (c, ck)) $$ HC
  unfold Known
  icases HB with ⟨⟨%κ, #HI⟩, -⟩
  iapply (Rounds.cell_close ER (rd m) (Set.mem_univ κ) (fun h => h) (R := lastR ck) (later m c ck))
  isplitr; · iexact HI
  iexact Ha

theorem close_all (c : Dev nD) :
    iprop(ctx m ∗ bigSep Finset.univ fun ck => atPos ER (kcell (c, ck)) (lastR ck) ∅ 0)
      ⊢ (iprop(|={Set.univ}=> bigSep Finset.univ fun ck => semVal (kcell (c, ck)) 0) : sProp 𝕄) :=
  (bigSep_under fun ck => close_one m c ck).trans (bigSep_fupd _ _)

end Cert.KernelIdeal.Run

end
-- ==== Proof.KernelIdeal.Body.lean ====
/-
The body of the kernel as the launch asks for it.
-/
module

public import proofs.«01_k».proof.Proof.KernelIdeal.Slots

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ UU ℕ

variable (m : (ℓ : Loc nD τ sig) → Buf (Elt F) ℓ)

/-! ## What a device starts from and ends with -/

def barTok (c : Dev nD) (d : ℕ) : sProp 𝕄 := dutyTok ER (barCell (bwd c d)) 0 (f16 d)
def sdTok (c : Dev nD) (k : ℕ) : sProp 𝕄 := dutyTok ER (sdCell c (f16 k)) 0 0
def rvTok (c : Dev nD) (k : ℕ) : sProp 𝕄 := dutyTok ER (rvCell (fwd c k) (f16 k)) 0 0
def rvCred (c : Dev nD) (k : ℕ) : sProp 𝕄 := cred (tallyAt (rvCell c (f16 k)) () N)
/-- The tokens of the duties device `c` pays; -/
def payToks (c : Dev nD) : sProp 𝕄 :=
  iprop(bigSep (Finset.Ico 1 16) (barTok c) ∗ bigSep (Finset.Ico 0 16) (cpTok c) ∗ bigSep (Finset.Ico 1 16) (sdTok c) ∗ bigSep (Finset.Ico 1 16) (rvTok c))
/-- its positions; -/
def posns (c : Dev nD) : sProp 𝕄 := bigSep Finset.univ fun ck : CK => atPos ER (kcell (c, ck)) 0 ∅ 0
/-- the credit it waits with. -/
def credits (c : Dev nD) : sProp 𝕄 := iprop(cred (tallyAt (barCell c) () 15) ∗ bigSep (Finset.Ico 1 16) (rvCred c))
def start (c : Dev nD) : sProp 𝕄 := iprop(ctx m ∗ posns c ∗ payToks c ∗ credits c ∗ wAll m c)

def xbAny (c : Dev nD) : sProp 𝕄 := iprop(∃ f : Buf (Elt F) ((c : Thread nD τ).loc cc0_scratch0), ((c : Thread nD τ).loc cc0_scratch0) ↦{fullShare} f)
def scratch (c : Dev nD) : sProp 𝕄 := iprop(xbAny c ∗ wAny c ∗ chAny c ∗ rvAny c)
def zeros (c : Dev nD) : sProp 𝕄 := bigSep Finset.univ fun ck : CK => semVal (kcell (c, ck)) 0

def Φ₀ (c : Dev nD) : sProp 𝕄 := iprop(start m c ∗ scratch c)
def Φ₁ (c : Dev nD) : sProp 𝕄 := iprop(scratch c ∗ zeros c ∗ wAll m c)

/-- What the start gives beside the body's own: the slots number 0, which nothing uses. -/
def spare (c : Dev nD) : sProp 𝕄 :=
  iprop(someRv c 0 ∗ someCh c 0 ∗ atPos ER (sdCell c 0) 0 ∅ 0 ∗ atPos ER (rvCell c 0) 0 ∅ 0)

theorem sig_merge (c : Dev nD) : iprop(bigSep (Finset.Ico 1 16) (barTok c) ∗ bigSep (Finset.Ico 1 16) fun k => someRv c (f16 k))
    ⊢ (bigSep (Finset.Ico 1 16) (sigRes c) : sProp 𝕄) := by
  rw [← bigSep_sep']; exact Entails.of_eq (bigSep_congr fun k _ => rfl)
theorem recv_merge (c : Dev nD) :
    iprop(bigSep (Finset.Ico 1 16) (rvCred c) ∗ bigSep (Finset.Ico 1 16) fun k => atPos ER (rvCell c (f16 k)) 0 ∅ 0)
      ⊢ (bigSep (Finset.Ico 1 16) (recvPre c) : sProp 𝕄) := by
  rw [← bigSep_sep']; exact Entails.of_eq (bigSep_congr fun k _ => rfl)
theorem chunk_merge (c : Dev nD) :
    iprop((bigSep (Finset.Ico 1 16) fun k => someCh c (f16 k)) ∗ bigSep (Finset.Ico 1 16) (sdTok c) ∗ bigSep (Finset.Ico 1 16) (rvTok c))
      ⊢ (bigSep (Finset.Ico 1 16) (chunkOwn c) : sProp 𝕄) := by
  rw [← bigSep_sep', ← bigSep_sep']; exact Entails.of_eq (bigSep_congr fun k _ => rfl)

theorem enter (c : Dev nD) :
    iprop(Φ₀ m c ∗ ins m c ∗ (∃ g, (c : Thread nD τ).loc cc0_stg3_0 ↦{fullShare} g) ∗ owesE c (O₀ c)) ⊢ iprop(ctx m ∗ bodyIn m c ∗ spare c) := by
  unfold Φ₀ start scratch payToks credits posns
  rw [bigSep_cells, bigSep_zero_pos, bigSep_zero_pos]
  iintro ⟨⟨⟨#HC, ⟨Hat, ⟨Ha0, Ha1⟩, ⟨Hs0, Hsd⟩, ⟨Hr0, Hrv⟩⟩, ⟨Htb, Htc, Hts, Htr⟩, ⟨Hcb, Hcr⟩, Hall⟩, ⟨Hxb, Hw, Hch, Hrs⟩⟩, Hins, Ho, HO⟩
  ihave Hw := (w_split c) $$ Hw
  ihave Hw := (Entails.of_eq (bigSep_two _)) $$ Hw
  icases Hw with ⟨Hw0, Hw1⟩
  ihave Hch := (ch_split c) $$ Hch
  ihave Hch := (Entails.of_eq (bigSep_zero_pos _)) $$ Hch
  icases Hch with ⟨Hch0, Hch⟩
  ihave Hrs := (rv_split c) $$ Hrs
  ihave Hrs := (Entails.of_eq (bigSep_zero_pos _)) $$ Hrs
  icases Hrs with ⟨Hrs0, Hrs⟩
  ihave Hsig := (sig_merge c) $$ [Htb Hrs]
  · isplitl [Htb]; · iexact Htb
    iexact Hrs
  ihave Hrv := (recv_merge c) $$ [Hcr Hrv]
  · isplitl [Hcr]; · iexact Hcr
    iexact Hrv
  ihave Hch := (chunk_merge c) $$ [Hch Hts Htr]
  · isplitl [Hch]; · iexact Hch
    isplitl [Hts]; · iexact Hts
    iexact Htr
  ihave HB0 := (known_cp m c 0) $$ HC
  ihave HB1 := (known_cp m c 1) $$ HC
  unfold Known
  icases HB0 with ⟨-, #HR0⟩
  icases HB1 with ⟨-, #HR1⟩
  isplitr; · iexact HC
  unfold bodyIn spare xbAny sigInv cpAt
  isplitr [Hrs0 Hch0 Hs0 Hr0]
  · isplitl [Hins]; · iexact Hins
    isplitl [Ho]; · iexact Ho
    isplitl [Hxb]; · unfold xbPts; iexact Hxb
    isplitl [Hsig HO]
    · isplitl [Hsig]; · iexact Hsig
      unfold O₀; iexact HO
    isplitl [Hcb]; · iexact Hcb
    isplitl [Hat]; · iexact Hat
    isplitl [Htc]; · iexact Htc
    isplitl [Hw0]; · iexact Hw0
    isplitl [Hw1]; · iexact Hw1
    isplitl [Ha0]
    · isplitl [Ha0]; · iexact Ha0
      iexact HR0
    isplitl [Ha1]
    · isplitl [Ha1]; · iexact Ha1
      iexact HR1
    isplitl [Hall]; · iexact Hall
    isplitl [Hch]; · iexact Hch
    isplitl [Hrv]; · iexact Hrv
    unfold sdPos; iexact Hsd
  isplitl [Hrs0]; · iexact Hrs0
  isplitl [Hch0]; · iexact Hch0
  isplitl [Hs0]; · iexact Hs0
  iexact Hr0

theorem recv_parts (c : Dev nD) : (bigSep (Finset.Ico 1 16) (recvPost c) : sProp 𝕄)
    ⊢ iprop((bigSep (Finset.Ico 1 16) fun k => atPos ER (rvCell c (f16 k)) (lastR (.inr (.inr (.inr (f16 k))))) ∅ 0)
        ∗ bigSep (Finset.Ico 1 16) fun k => someRv c (f16 k)) := by
  rw [← bigSep_sep']
  refine Entails.of_eq (bigSep_congr fun k hk => ?_)
  have h := Finset.mem_Ico.mp hk
  unfold recvPost
  rw [show lastR (.inr (.inr (.inr (f16 k)))) = 1 from if_neg (by show ¬ k % 16 = 0; omega)]
theorem drain_parts (c : Dev nD) : (bigSep (Finset.Ico 1 16) (drainPost c) : sProp 𝕄)
    ⊢ iprop((bigSep (Finset.Ico 1 16) fun k => atPos ER (sdCell c (f16 k)) (lastR (.inr (.inr (.inl (f16 k))))) ∅ 0)
        ∗ bigSep (Finset.Ico 1 16) fun k => someCh c (f16 k)) := by
  rw [← bigSep_sep']
  refine Entails.of_eq (bigSep_congr fun k hk => ?_)
  have h := Finset.mem_Ico.mp hk
  unfold drainPost
  rw [show lastR (.inr (.inr (.inl (f16 k)))) = 1 from if_neg (by show ¬ k % 16 = 0; omega)]

theorem leave (c : Dev nD) :
    iprop(ctx m ∗ bodyOut m c ∗ spare c)
      ⊢ iprop(|={Set.univ}=> (Φ₁ m c ∗ ins m c ∗ ((c : Thread nD τ).loc cc0_stg3_0 ↦{fullShare} outAt m c) ∗ owesE c 0)) := by
  unfold bodyOut spare oPts cpAt
  iintro ⟨#HC, ⟨Hins, ⟨%g, %hg, Ho⟩, Hxb, Hat, Hw0, Hw1, ⟨Ha0, -⟩, ⟨Ha1, -⟩, Hall, Hrv, Hsd, HO⟩, ⟨Hrs0, Hch0, Hs0, Hr0⟩⟩
  have hg' := rowsOk_end m c g hg
  subst hg'
  ihave Hrv := (recv_parts c) $$ Hrv
  icases Hrv with ⟨Hrp, Hrs⟩
  ihave Hsd := (drain_parts c) $$ Hsd
  icases Hsd with ⟨Hsp, Hch⟩
  imod (close_all m c) $$ [Hat Ha0 Ha1 Hrp Hsp Hs0 Hr0] with Hz
  · isplitr; · iexact HC
    iapply (Entails.of_eq (bigSep_cells (fun ck : CK => (atPos ER (kcell (c, ck)) (lastR ck) ∅ 0 : sProp 𝕄))).symm)
    isplitl [Hat]; · iexact Hat
    isplitl [Ha0 Ha1]
    · isplitl [Ha0]; · iexact Ha0
      iexact Ha1
    isplitl [Hsp Hs0]
    · iapply (Entails.of_eq (bigSep_zero_pos (fun d => (atPos ER (sdCell c d) (lastR (.inr (.inr (.inl d)))) ∅ 0 : sProp 𝕄))).symm)
      isplitl [Hs0]; · iexact Hs0
      iexact Hsp
    · iapply (Entails.of_eq (bigSep_zero_pos (fun d => (atPos ER (rvCell c d) (lastR (.inr (.inr (.inr d)))) ∅ 0 : sProp 𝕄))).symm)
      isplitl [Hr0]; · iexact Hr0
      iexact Hrp
  imodintro
  unfold Φ₁ scratch zeros
  isplitr [Hins Ho HO]
  · isplitr [Hz Hall]
    · isplitl [Hxb]; · unfold xbAny; unfold xbPts; iexact Hxb
      isplitl [Hw0 Hw1]
      · iapply (w_join m c); iapply (Entails.of_eq (bigSep_two _).symm)
        isplitl [Hw0]; · iexact Hw0
        iexact Hw1
      isplitl [Hch0 Hch]
      · iapply (ch_join m c); iapply (Entails.of_eq (bigSep_zero_pos _).symm)
        isplitl [Hch0]; · iexact Hch0
        iexact Hch
      · iapply (rv_join m c); iapply (Entails.of_eq (bigSep_zero_pos _).symm)
        isplitl [Hrs0]; · iexact Hrs0
        iexact Hrs
    isplitl [Hz]; · iexact Hz
    iexact Hall
  isplitl [Hins]; · iexact Hins
  isplitl [Ho]; · iexact Ho
  iexact HO

/-- The whole body. -/
theorem wp_body (c : Dev nD) (Q : PUnit → sProp 𝕄) :
    iprop(Φ₀ m c ∗ ins m c ∗ (∃ g, (c : Thread nD τ).loc cc0_stg3_0 ↦{fullShare} g) ∗ owesE c (O₀ c))
      ⊢ iprop(((Φ₁ m c ∗ ins m c ∗ ((c : Thread nD τ).loc cc0_stg3_0 ↦{fullShare} outAt m c) ∗ owesE c 0) -∗ Q ⟨⟩) -∗ WP c steps Q) := by
  iintro H Hk
  ihave H := (enter m c) $$ H
  icases H with ⟨#HC, Hin, Hsp⟩
  iapply (wp_steps m c Q) $$ [Hin]
  · isplitr; · iexact HC
    iexact Hin
  iintro Hout
  unfold WP; rw [wp_ret]
  imod (leave m c) $$ [Hout Hsp] with H
  · isplitr; · iexact HC
    isplitl [Hout]; · iexact Hout
    iexact Hsp
  imodintro
  iapply Hk; iexact H

end Cert.KernelIdeal.Run

end
-- ==== Proof.KernelIdeal.Region.lean ====
/-
The launch's data for the one region, and its body obligation.
-/
module

public import proofs.«01_k».proof.Proof.KernelIdeal.Body

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ UU ℕ

variable (m : (ℓ : Loc nD τ sig) → Buf (Elt F) ℓ)

/-- The windows: the three arguments come back as they were, the result is `outAt`. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => sxstg m c
    | ⟨2, _⟩ => swstg m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_in (w : Fin cfg0.W) (hw : w.val < 3) : (cfg0.win w).fetch t0_0 = true := by
  obtain ⟨w, h⟩ := w
  rcases w with _ | _ | _ | w
  · rfl
  · rfl
  · rfl
  · exact absurd hw (by simp)

/-- A staging buffer whole, at contents equal to `X`. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]
theorem stg_eq (c : Dev nD) (b : Ref sig .tc) (X : b.ty.Contents (Elt F)) :
    (stg c b X : sProp 𝕄) = (((c : Thread nD τ).loc b) ↦{fullShare} X) := by
  have h1 : (stg c b X : sProp 𝕄) ⊢ (((c : Thread nD τ).loc b) ↦{fullShare} X) := by
    unfold stg; iintro ⟨%f, %h, H⟩; subst h; iexact H
  have h2 : (((c : Thread nD τ).loc b) ↦{fullShare} X) ⊢ (stg c b X : sProp 𝕄) := by
    unfold stg; iintro H; iexists X; isplitr; · (ipureintro; rfl)
    iexact H
  exact BI.equiv_iff.mp ⟨h1, h2⟩

def bodyPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
def bodyPost (c : Dev nD) : sProp 𝕄 :=
  iprop(Φ₁ m c ∗ (dats m 0 c).owesAt () t0_0.succ
    ∗ stg c cc0_stg0_0 (xstg m c) ∗ stg c cc0_stg1_0 (sxstg m c) ∗ stg c cc0_stg2_0 (swstg m c) ∗ stg c cc0_stg3_0 (outAt m c))

theorem before_0 (c : Dev nD) (d) : (dats m 0 c).before (0 : Fin 4) t0_0 d = xstg m c := by
  unfold Dat.before; rw [if_pos (fetch_in (0 : Fin 4) (by decide))]; rfl
theorem before_1 (c : Dev nD) (d) : (dats m 0 c).before (1 : Fin 4) t0_0 d = sxstg m c := by
  unfold Dat.before; rw [if_pos (fetch_in (1 : Fin 4) (by decide))]; rfl
theorem before_2 (c : Dev nD) (d) : (dats m 0 c).before (2 : Fin 4) t0_0 d = swstg m c := by
  unfold Dat.before; rw [if_pos (fetch_in (2 : Fin 4) (by decide))]; rfl

theorem sound_body (c : Dev nD) : bodyPre m c ⊢ WP c steps fun _ => bodyPost m c := by
  unfold bodyPre
  simp only [before_0, before_1, before_2, stg_eq]
  unfold Dat.owesAt Pipeline.owesWithin
  rw [show (dats m 0 c).owed t0_0.castSucc = O₀ c from rfl]
  iintro ⟨HΦ, ⟨%W, %hW, HO⟩, ⟨%d0, H0⟩, ⟨%d1, H1⟩, ⟨%d2, H2⟩, ⟨%d3, H3⟩⟩
  iapply (wp_body m c fun _ => bodyPost m c) $$ [HΦ HO H0 H1 H2 H3]
  · isplitl [HΦ]; · iexact HΦ
    isplitl [H0 H1 H2]
    · unfold ins xPts
      isplitl [H0]; · iexact H0
      isplitl [H1]; · iexact H1
      iexact H2
    isplitl [H3]; · iexists _; iexact H3
    unfold owesE; iexists W; iexact HO
  unfold ins xPts owesE bodyPost Dat.owesAt Pipeline.owesWithin
  rw [show (dats m 0 c).owed t0_0.succ = 0 from rfl]
  simp only [stg_eq]
  iintro ⟨HΦ, ⟨H0, H1, H2⟩, H3, ⟨%W', HO⟩⟩
  isplitl [HΦ]; · iexact HΦ
  isplitl [HO]
  · iexists W'; isplitr; · ipureintro; exact fun _ _ => Or.inl trivial
    iexact HO
  isplitl [H0]; · iexact H0
  isplitl [H1]; · iexact H1
  isplitl [H2]; · iexact H2
  iexact H3

set_option maxRecDepth 65536 in
/-- The obligation of the launch theorem. -/
theorem body_obligation (c : Dev nD) : BodyObligation (dats (F := F) m 0 c) (defs₀ (F := F)) 𝒱₀ () Set.univ := fun t => by
  rw [show t = t0_0 from fin_N0 t]
  rw [show ∀ Φ : Fin cfg0.W → sProp 𝕄, bigSep Finset.univ Φ = iprop(Φ (0 : Fin 4) ∗ Φ (1 : Fin 4) ∗ Φ (2 : Fin 4) ∗ Φ (3 : Fin 4)) from fun Φ => bigSep_W0 Φ,
    show ∀ Φ : Fin cfg0.W → sProp 𝕄, bigSep Finset.univ Φ = iprop(Φ (0 : Fin 4) ∗ Φ (1 : Fin 4) ∗ Φ (2 : Fin 4) ∗ Φ (3 : Fin 4)) from fun Φ => bigSep_W0 Φ]
  simp only [owns_stg]
  show bodyPre m c ⊢ WP c (cc0_body (F := F) xM (Memref.isWhole_whole _) wM (Memref.isWhole_whole _) sxM (Memref.isWhole_whole _) swM (Memref.isWhole_whole _)
      oM (Memref.isWhole_whole _) xbM (Memref.isWhole_whole _) wbM (Memref.isWhole_whole _) chM (Memref.isWhole_whole _)
      rvM (Memref.isWhole_whole _) cc0_scratch4 cc0_scratch5 cc0_scratch6) (fun _ => bodyPost m c)
  rw [steps_eq]
  exact sound_body m c

end Cert.KernelIdeal.Run

end
-- ==== Proof.KernelIdeal.Launch.lean ====
/-
The launch: the semaphores' records made and dealt, the credit counted, and the run of the whole mesh.
-/
module

public import proofs.«01_k».proof.Proof.KernelIdeal.Region
public import Idealize.ShloMosaic.Lib.Pipeline.CollectiveSegs
public import Idealize.ShloMosaic.Lib.Pipeline.ValueKit

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

theorem ownSemFacts : Pipeline.OwnSemFacts cfg0.spec osem := by decide

theorem share_eq (c : Dev nD) (w : Fin cfg0.W) : (dats m 0 c).share w = fullShare := by unfold Dat.share; split <;> rfl

/-! ## Cells and tokens -/

theorem csem_injective : Function.Injective (csem : CK → SemLoc sig) := by
  have hd : ∀ {q q' : DmaSem sig}, (SemLoc.dma q : SemLoc sig) = .dma q' → q.val = q'.val := by rintro q q' h; cases h; rfl
  rintro (_ | p | d | d) (_ | p' | d' | d') h
  · rfl
  · cases h
  · cases h
  · cases h
  · cases h
  · have h' := hd h; rw [cpA_val, cpA_val] at h'
    rw [show p = p' from Fin.ext (by omega)]
  · have h' := hd h; rw [cpA_val, sdA_val] at h'; have := p.isLt; omega
  · have h' := hd h; rw [cpA_val, rvA_val] at h'; have := p.isLt; omega
  · cases h
  · have h' := hd h; rw [cpA_val, sdA_val] at h'; have := p'.isLt; omega
  · have h' := hd h; rw [sdA_val, sdA_val] at h'
    rw [show d = d' from Fin.ext (by omega)]
  · have h' := hd h; rw [sdA_val, rvA_val] at h'; have := d.isLt; omega
  · cases h
  · have h' := hd h; rw [cpA_val, rvA_val] at h'; have := p'.isLt; omega
  · have h' := hd h; rw [sdA_val, rvA_val] at h'; have := d'.isLt; omega
  · have h' := hd h; rw [rvA_val, rvA_val] at h'
    rw [show d = d' from Fin.ext (by omega)]

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- A device's duties, by semaphore: the barrier's, the copies', the sends', the receives'. -/
abbrev TK : Type := Fin 16 ⊕ Fin 16 ⊕ Fin 16 ⊕ Fin 16
/-- The cell, the round and the duty of each. -/
abbrev dutyOf : TK → CK × ℕ × Fin 16
  | .inl d => (.inl (), 0, d)
  | .inr (.inl k) => (.inr (.inl (f2 k.val)), k.val / 2, 0)
  | .inr (.inr (.inl d)) => (.inr (.inr (.inl d)), 0, 0)
  | .inr (.inr (.inr d)) => (.inr (.inr (.inr d)), 0, 0)
theorem dutyOf_injective : Function.Injective dutyOf := by
  rintro (d | k | d | d) (d' | k' | d' | d') h
  case inr.inl.inr.inl =>
    have h1 : f2 k.val = f2 k'.val := Sum.inl.inj (Sum.inr.inj (congrArg Prod.fst h))
    have h2 : k.val / 2 = k'.val / 2 := congrArg (fun x => x.2.1) h
    have h3 : k.val % 2 = k'.val % 2 := congrArg Fin.val h1
    rw [show k = k' from Fin.ext (by omega)]
  all_goals first | cases h; rfl | exact absurd (congrArg Prod.fst h) (by simp)
abbrev tokOf (x : Dev nD × TK) : GSem nD τ sig × ℕ × Fin 16 := (kcell (x.1, (dutyOf x.2).1), (dutyOf x.2).2)
theorem tokOf_injective : Function.Injective (tokOf : Dev nD × TK → GSem nD τ sig × ℕ × Fin 16) := by
  rintro ⟨c, j⟩ ⟨c', j'⟩ h
  obtain ⟨h1, h2⟩ := Prod.mk.inj (show (kcell (c, (dutyOf j).1), (dutyOf j).2) = (kcell (c', (dutyOf j').1), (dutyOf j').2) from h)
  have h1 := kcell_injective h1
  have h3 : j = j' := dutyOf_injective (Prod.ext (congrArg Prod.snd h1) h2)
  rw [show c = c' from congrArg Prod.fst h1, h3]
def allToks : Finset (GSem nD τ sig × ℕ × Fin 16) := Finset.univ.map ⟨tokOf, tokOf_injective⟩

def u₀ : UU := (initOf (Pipeline.cells cfgs cellOf_inj) (Pipeline.launchToks cfgs cellOf_inj), initOf allCells allToks)

/-- The tokens of the duties on device `c`'s own semaphores. -/
def toks (c : Dev nD) : sProp 𝕄 := bigSep Finset.univ fun j : TK => dutyTok ER (tokOf (c, j)).1 (tokOf (c, j)).2.1 (tokOf (c, j)).2.2
def records : sProp 𝕄 := bigSep Finset.univ fun ck : Dev nD × CK => Known m (kcell ck)
instance records_persistent : BI.Persistent (records m) := by unfold records; infer_instance

def G (c : Dev nD) : sProp 𝕄 :=
  iprop((bigSep Finset.univ fun k : CK => roundState ER (rd m) (kcell (c, k)) 0)
    ∗ (bigSep Finset.univ fun k : CK => iprop(atPos ER (kcell (c, k)) 0 ∅ 0 ∗ reached ER (kcell (c, k)) 0)) ∗ toks c)
def G' (c : Dev nD) : sProp 𝕄 := iprop(records m ∗ posns c ∗ payToks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

theorem zeros_eq (c : Dev nD) : (zeros c : sProp 𝕄)
    = iprop(unscopedSems0 c ∗ Pipeline.ownSems0 (Ix := Unit) (Name := ℕ) (U := UU) (Lvl := ℕ) (Val := Elt F) (τ := τ) osem c) := by
  have h := bigSep_univ_sum (fun ck : CK => (semVal (kcell (c, ck)) 0 : sProp 𝕄))
  unfold zeros Pipeline.ownSems0
  rw [h, unscopedSems0_eq, show (Finset.univ : Finset Unit) = {()} from rfl, bigSep_singleton]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (rd m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (Entails.of_eq (zeros_eq (F := F) c).symm) $$ [Hos Hus]
  · isplitl [Hus]; · iexact Hus
    iexact Hos
  unfold zeros
  imod (show iprop((bigSep Finset.univ fun k : CK => semVal (kcell (c, k)) 0) ∗ bigSep Finset.univ fun k : CK => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-! ## The tokens dealt to the devices that pay -/

theorem slots_pos {Φ : Fin 16 → sProp 𝕄} {Ψ : ℕ → sProp 𝕄} (h : ∀ k ∈ Finset.Ico 1 16, Φ (f16 k) = Ψ k) :
    bigSep Finset.univ Φ ⊢ bigSep (Finset.Ico 1 16) Ψ := by
  rw [bigSep_zero_pos, bigSep_congr h]; exact sep_elim_right

/-- A family over devices and numbers, each number's dealt around by that number's `e`, number 0 dropped. -/
theorem deal (T : Dev nD → Fin 16 → sProp 𝕄) (e : ℕ → Dev nD ≃ Dev nD) :
    (bigSep Finset.univ fun c => bigSep Finset.univ fun d => T c d)
      ⊢ bigSep Finset.univ fun c => bigSep (Finset.Ico 1 16) fun k => T (e k c) (f16 k) := by
  rw [bigSep_univ_comm, bigSep_congr (s := Finset.univ) (fun (d : Fin 16) _ => bigSep_univ_equiv (e d.val) (fun c => T c d)), bigSep_univ_comm]
  exact bigSep_mono fun c _ => slots_pos fun k hk => by
    rw [show (f16 k).val = k from Nat.mod_eq_of_lt (Finset.mem_Ico.mp hk).2]

theorem toks_eq (c : Dev nD) : (toks c : sProp 𝕄)
    = iprop((bigSep Finset.univ fun d => dutyTok ER (barCell c) 0 d) ∗ (bigSep Finset.univ fun k : Fin 16 => cpTok c k.val)
      ∗ (bigSep Finset.univ fun d => dutyTok ER (sdCell c d) 0 0) ∗ (bigSep Finset.univ fun d => dutyTok ER (rvCell c d) 0 0)) := by
  have h := bigSep_univ_sum (fun j : TK => (dutyTok ER (tokOf (c, j)).1 (tokOf (c, j)).2.1 (tokOf (c, j)).2.2 : sProp 𝕄))
  unfold toks
  rw [h, bigSep_univ_sum, bigSep_univ_sum]
  rfl

theorem cp_toks (c : Dev nD) : (bigSep Finset.univ fun k : Fin 16 => cpTok c k.val) ⊢ (bigSep (Finset.Ico 0 16) (cpTok c) : sProp 𝕄) := by
  rw [bigSep_slots]
  exact Entails.of_eq (bigSep_congr fun k hk => by rw [show (f16 k).val = k from Nat.mod_eq_of_lt (Finset.mem_Ico.mp hk).2])

theorem toks_around : (bigSep Finset.univ fun c : Dev nD => (toks c : sProp 𝕄)) ⊢ bigSep Finset.univ fun c : Dev nD => payToks c := by
  have h1 := deal (fun c d => (dutyTok ER (barCell c) 0 d : sProp 𝕄)) fun k => (around k).symm
  have h2 : (bigSep Finset.univ fun c : Dev nD => bigSep Finset.univ fun k : Fin 16 => (cpTok c k.val : sProp 𝕄))
      ⊢ bigSep Finset.univ fun c : Dev nD => bigSep (Finset.Ico 0 16) (cpTok c) := bigSep_mono fun c _ => cp_toks c
  have h3 : (bigSep Finset.univ fun c : Dev nD => bigSep Finset.univ fun d : Fin 16 => (dutyTok ER (sdCell c d) 0 0 : sProp 𝕄))
      ⊢ bigSep Finset.univ fun c : Dev nD => bigSep (Finset.Ico 1 16) (sdTok c) := bigSep_mono fun c _ => slots_pos fun k _ => rfl
  have h4 := deal (fun c d => (dutyTok ER (rvCell c d) 0 0 : sProp 𝕄)) around
  unfold payToks
  rw [bigSep_congr (s := Finset.univ) (fun (c : Dev nD) _ => toks_eq (F := F) c)]
  simp only [bigSep_sep']
  iintro ⟨H1, H2, H3, H4⟩
  isplitl [H1]; · iapply h1; iexact H1
  isplitl [H2]; · iapply h2; iexact H2
  isplitl [H3]; · iapply h3; iexact H3
  iapply h4; iexact H4

theorem regroup :
    (bigSep Finset.univ fun c : Dev nD => iprop((bigSep Finset.univ fun k : CK => iprop(∃ κ : ℕ, cellInv ER (rd m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  have hrec : iprop((bigSep Finset.univ fun c : Dev nD => bigSep Finset.univ fun k : CK => iprop(∃ κ : ℕ, cellInv ER (rd m) κ (kcell (c, k))))
      ∗ bigSep Finset.univ fun c : Dev nD => bigSep Finset.univ fun k : CK => reached ER (kcell (c, k)) 0) ⊢ (records m : sProp 𝕄) := by
    unfold records Known
    rw [bigSep_sep', bigSep_univ_prod, bigSep_univ_prod]
  have hG : iprop(records m ∗ bigSep Finset.univ fun c : Dev nD => iprop(posns c ∗ payToks c)) ⊢ (bigSep Finset.univ (G' m) : sProp 𝕄) :=
    (sep_mono_left (BI.bigSep_of_persistent Finset.univ (records m))).trans (by rw [← bigSep_sep']; exact Entails.of_eq (bigSep_congr fun c _ => rfl))
  simp only [bigSep_sep'] at hG ⊢
  iintro ⟨HI, ⟨Hat, HR⟩, Htok⟩
  ihave Htk := (toks_around (F := F)) $$ Htok
  ihave HK := hrec $$ [HI HR]
  · isplitl [HI]; · iexact HI
    iexact HR
  iapply hG
  isplitl [HK]; · iexact HK
  isplitl [Hat]; · unfold posns; iexact Hat
  iexact Htk

theorem glob : (bigSep Finset.univ fun c => iprop(Pipeline.ownSems0 (Ix := Unit) (Name := ℕ) (U := UU) (Lvl := ℕ) (Val := Elt F) (τ := τ) osem c
    ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The credit -/

theorem sum_tallies (s : Finset ℕ) (f : Dev nD → ℕ → GSem nD τ sig) (n : ℕ) (g : GSem nD τ sig) :
    (∑ d : Dev nD, (∑ e ∈ s, tallyAt (Ix := Unit) (f d e) () n : CellTallies nD τ sig Unit) g ())
      = ∑ e ∈ s, ∑ d : Dev nD, (tallyAt (f d e) () n : CellTallies nD τ sig Unit) g () := by
  rw [Finset.sum_comm]
  exact Finset.sum_congr rfl fun d _ => by rw [Finset.sum_apply, Finsupp.finset_sum_apply]

/-- One device owing `n` to the cell: so do all together. -/
theorem sum_one (f : Dev nD → GSem nD τ sig) (n : ℕ) (g : GSem nD τ sig) (d₀ : Dev nD) (h : ∀ d, g = f d ↔ d = d₀) :
    (∑ d : Dev nD, (tallyAt (f d) () n : CellTallies nD τ sig Unit) g ()) = n := by
  rw [Finset.sum_eq_single d₀, tallyAt_apply, if_pos ⟨(h d₀).mpr rfl, rfl⟩]
  · intro d _ hd
    rw [tallyAt_apply, if_neg fun h' => hd ((h d).mp h'.1)]
  · exact fun h => absurd (Finset.mem_univ _) h
theorem sum_none (f : Dev nD → GSem nD τ sig) (n : ℕ) (g : GSem nD τ sig) (h : ∀ d, g ≠ f d) :
    (∑ d : Dev nD, (tallyAt (f d) () n : CellTallies nD τ sig Unit) g ()) = 0 :=
  Finset.sum_eq_zero fun d _ => by rw [tallyAt_apply, if_neg fun h' => h d h'.1]

/-- What all devices together owe a cell. -/
theorem owed_sum (g : GSem nD τ sig) : (∑ d : Dev nD, O₀ d g ())
    = (∑ e ∈ Finset.Ico 1 16, ∑ d : Dev nD, (tallyAt (rvCell (fwd d e) (f16 e)) () N : CellTallies nD τ sig Unit) g ())
      + ∑ e ∈ Finset.Ico 1 16, ∑ d : Dev nD, (tallyAt (barCell (bwd d e)) () 1 : CellTallies nD τ sig Unit) g () := by
  rw [← sum_tallies _ (fun d e => rvCell (fwd d e) (f16 e)), ← sum_tallies _ (fun d e => barCell (bwd d e)), ← Finset.sum_add_distrib]
  exact Finset.sum_congr rfl fun d _ => by unfold O₀ Osd Obar; rw [Pi.add_apply, Finsupp.add_apply]

theorem bar_iff (c : Dev nD) (e : ℕ) (d : Dev nD) : barCell c = barCell (bwd d e) ↔ d = fwd c e :=
  ⟨fun h => by
    have h' : c = bwd d e := congrArg (fun g : GSem nD τ sig => g.1.1) h
    rw [h', fwd_bwd], fun h => by rw [h, bwd_fwd]⟩
theorem rv_iff (c : Dev nD) (e : ℕ) (d : Dev nD) : rvCell c (f16 e) = rvCell (fwd d e) (f16 e) ↔ d = bwd c e :=
  ⟨fun h => by
    have h' : c = fwd d e := congrArg (fun g : GSem nD τ sig => g.1.1) h
    rw [h', bwd_fwd], fun h => by rw [h, fwd_bwd]⟩
theorem bar_ne_rv (c c' : Dev nD) (x : Fin 16) : barCell c ≠ rvCell c' x := fun h => by cases congrArg Prod.snd h

theorem owed_bar (c : Dev nD) : (∑ d : Dev nD, O₀ d (barCell c) ()) = 15 := by
  rw [owed_sum, Finset.sum_congr rfl fun e _ => sum_none _ N _ fun d => bar_ne_rv c (fwd d e) (f16 e),
    Finset.sum_congr rfl fun e _ => sum_one _ 1 _ (fwd c e) (bar_iff c e), Finset.sum_const_zero]
  decide

theorem owed_rv (c : Dev nD) (k : ℕ) (h : 1 ≤ k) (h' : k < 16) : (∑ d : Dev nD, O₀ d (rvCell c (f16 k)) ()) = N := by
  rw [owed_sum, Finset.sum_eq_single k (fun e he hne => sum_none _ N _ fun d h => ?_) (fun hn => absurd (Finset.mem_Ico.mpr ⟨h, h'⟩) hn),
    Finset.sum_congr (s₁ := Finset.Ico 1 16) rfl fun e _ => sum_none _ 1 (rvCell c (f16 k)) fun d => (bar_ne_rv (bwd d e) c (f16 k)).symm,
    Finset.sum_const_zero, Nat.add_zero]
  · exact sum_one _ N _ (bwd c k) (rv_iff c k)
  · have hk : (.inr (.inr (.inr (f16 k))) : CK) = .inr (.inr (.inr (f16 e))) := csem_injective (congrArg Prod.snd h)
    have hv : k % 16 = e % 16 := congrArg Fin.val (Sum.inr.inj (Sum.inr.inj (Sum.inr.inj hk)))
    have := (Finset.mem_Ico.mp he).2
    omega

theorem launch_at (g : GSem nD τ sig) (n : ℕ) (h : (∑ d : Dev nD, O₀ d g ()) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

def rvSems : Finset (SemLoc sig) := ((Finset.univ : Finset (Fin 16)).erase 0).map
  ⟨fun d => .dma (rvA d), fun d d' h => Sum.inr.inj (Sum.inr.inj (Sum.inr.inj (csem_injective (a₁ := .inr (.inr (.inr d))) (a₂ := .inr (.inr (.inr d'))) h)))⟩

theorem creds (c : Dev nD) : (Pipeline.launchCred O₀ c : sProp 𝕄) ⊢ credits c := by
  unfold Pipeline.launchCred credits
  rw [bigSep_univ_at _ (SemLoc.reg barS), launch_at _ _ (owed_bar c)]
  refine sep_mono_right ((bigSep_subset (t := rvSems) ?_).trans ?_)
  · intro s hs
    obtain ⟨d, -, rfl⟩ := Finset.mem_map.mp hs
    exact Finset.mem_erase.mpr ⟨fun h => (by cases h), Finset.mem_univ _⟩
  · unfold rvSems
    rw [bigSep_map, bigSep_slots_pos]
    exact Entails.of_eq (bigSep_congr fun k hk => congrArg cred (launch_at _ _ (owed_rv c k (Finset.mem_Ico.mp hk).1 (Finset.mem_Ico.mp hk).2)))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show cfg0.spec = spec0 from rfl, unscopedRest0_eq]
  iintro ⟨Hw, Hlev, Hcr, -, HG⟩
  ihave Hc := (creds (F := F) c) $$ Hcr
  imodintro
  unfold start G' records ctx
  icases HG with ⟨HK, Hp, Ht⟩
  isplitl
  · isplitl [HK Hlev]
    · isplitl [HK]; · iexact HK
      iexact Hlev
    isplitl [Hp]; · iexact Hp
    isplitl [Ht]; · iexact Ht
    isplitl [Hc]; · iexact Hc
    unfold wAll; iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show cfg0.spec = spec0 from rfl, scopedRest0_eq]
  unfold Φ₀ scratch xbAny wAny chAny rvAny
  iintro ⟨Hs, -, Hr⟩
  isplitl [Hs]; · iexact Hs
  iexact Hr

def leftover (c : Dev nD) : sProp 𝕄 := iprop(unscopedSems0 c ∗ wAll m c)

theorem phi1_exit (c : Dev nD) :
    (dats m 0 c).Φ (Fin.last cfg0.N) ⊢ iprop(leftover m c ∗ Pipeline.ownSems0 osem c ∗ Pipeline.scopedRest cfg0.spec c) := by
  rw [show (dats m 0 c).Φ (Fin.last cfg0.N) = Φ₁ m c from rfl, show cfg0.spec = spec0 from rfl, scopedRest0_eq]
  unfold Φ₁ leftover
  rw [zeros_eq]
  unfold scratch xbAny wAny chAny rvAny
  iintro ⟨Hr, ⟨Hu, Ho⟩, Hw⟩
  isplitl [Hu Hw]
  · isplitl [Hu]; · iexact Hu
    iexact Hw
  isplitl [Ho]; · iexact Ho
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- What a device reads off the end: its unscoped semaphores at zero, and `w` as it was. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)

theorem leftover_read (c : Dev nD) (s' : Phys nD τ sig (Elt F)) :
    iprop(leftover m c ∗ emp ∗ SI s') ⊢ (|={Set.univ}=> iprop(⌜QY m c s'.mem⌝ ∗ SI s') : sProp 𝕄) := by
  have hw : iprop(wAll m c ∗ SI s') ⊢ (iprop(⌜s'.mem.mem ((c : Thread nD τ).loc main_arg1) = m ((c : Thread nD τ).loc main_arg1)⌝ ∗ SI s') : sProp 𝕄) := by
    have h := pointsTo_read_all (Ix := Unit) (Name := ℕ) (U := UU) (Lvl := ℕ) ({()} : Finset Unit) (fun _ => (c : Thread nD τ).loc main_arg1) (fun _ => wv m c) s'
    rw [bigSep_singleton] at h
    refine h.trans ?_
    exact sep_mono_left (Laws.pure_mono fun h => h () (Finset.mem_singleton_self _))
  unfold leftover
  iintro ⟨⟨Hu, Hw⟩, -, HSI⟩
  ihave H := hw $$ [Hw HSI]
  · isplitl [Hw]; · iexact Hw
    iexact HSI
  icases H with ⟨%h1, HSI⟩
  imod (Pipeline.unscopedSems0_read (X := unscopedSems0 c) (c := c) fupd_intro s') $$ [Hu HSI] with ⟨%h2, HSI⟩
  · isplitl [Hu]; · iexact Hu
    iexact HSI
  imodintro
  isplitr; · ipureintro; exact ⟨h2, h1⟩
  iexact HSI

/-! ## The run -/

def finalA (c : Dev nD) (w : Fin cfg0.W) : Buf (Elt F) ((cfg0.win w).arr.view.loc (c : Thread nD τ)) := (dats m 0 c).arrAt w cfg0.N

set_option maxRecDepth 8000 in
/-- For any float values, from any memory with zero counters: every weakly fair execution of the mesh ends, with each
    window's array at its final contents, `w` unchanged and every counter at zero. -/
theorem run_windows : θ_run defs (onTc (τ := τ) (main (F := F))) (s₀ m ρ)
    (fun r => (∀ c : Dev nD, (∀ w : Fin cfg0.W, r.2.mem ((cfg0.win w).arr.view.loc (c : Thread nD τ)) = finalA m c w)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => body_obligation m c) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := leftover m) (Z := fun _ => iprop(emp))
    (hX := start_intro m ρ) (hin := phi0_intro m) (hout := phi1_exit m)
    (QY := QY m) (hY := leftover_read m)
    (hQ := fun _ h hs => ⟨fun c => ⟨(h c).1, (h c).2.2.2⟩, sem_eq_zero hs fun c => (h c).2.2.1⟩)

/-- An argument's array ends as it was. -/
theorem finalA_in (c : Dev nD) (w : Fin cfg0.W) (h : (cfg0.win w).isOut = false) : finalA m c w = m ((cfg0.win w).arr.view.loc (c : Thread nD τ)) :=
  (dats (F := F) m 0 c).arrAt_in w h _
/-- The result's holds what the body left in its window. -/
theorem finalA_out (c : Dev nD) : finalA m c (3 : Fin 4) = outAt m c :=
  (dats (F := F) m 0 c).arrAt_eq_of_after_last (3 : Fin 4) t0_0 (by decide +kernel) (outAt m c) (fun _ => rfl)

/-- The run of the mesh: the result on every device, the arguments as they were, every counter at zero. -/
theorem run_mesh : θ_run defs (onTc (τ := τ) (main (F := F))) (s₀ m ρ)
    (fun r => (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run _ _ _).mono (fun r h => ⟨fun c =>
    ⟨((h.1 c).1 (3 : Fin 4)).trans (finalA_out m c), ((h.1 c).1 (0 : Fin 4)).trans (finalA_in m c (0 : Fin 4) rfl), (h.1 c).2,
      ((h.1 c).1 (1 : Fin 4)).trans (finalA_in m c (1 : Fin 4) rfl), ((h.1 c).1 (2 : Fin 4)).trans (finalA_in m c (2 : Fin 4) rfl)⟩, h.2⟩) (run_windows m ρ)

end Cert.KernelIdeal.Run

end
-- ==== Proof.Reference.lean ====
/-
The reference's result: one product of the whole arrays, scaled and clipped below at zero.
-/
module

public import proofs.«01_k».proof.Proof.Gen.ReferenceIdeal.Value
public import Idealize.ShloMosaic.Lib.Pipeline.ValueKit
public import Idealize.ShloMosaic.Lib.WholeRead

@[expose] public section

noncomputable section

namespace Cert.ReferenceIdeal.Whole

open Cert.ReferenceIdeal Cert.ReferenceIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The one index of an array of one element. -/
def only : S1.Idx := Shape.Idx.first (numel1_S1.symm ▸ Nat.one_pos)
theorem eq_only (i j : S1.Idx) : i = j := by
  funext a; apply Fin.ext
  have hs : S1.size a = 1 := by fin_cases a; rfl
  have hi := (i a).isLt
  have hj := (j a).isLt
  omega

/-- The result, of the four arguments. -/
def value (c : Dev nD) : FVec F S4096x8192 .f32 :=
  k0_pay1 (m ((c : Thread nD τ).loc main_arg0)) (m ((c : Thread nD τ).loc main_arg1)) (m ((c : Thread nD τ).loc main_arg2) only)
    (m ((c : Thread nD τ).loc main_arg3) only)

theorem zeros2 : (![0, 0] : Fin 2 → Nat) = fun _ => 0 := funext fun a => by fin_cases a <;> rfl

/-- The staged arguments: the arrays themselves. -/
theorem iblk0 (c : Dev nD) : iblk m c 0 t0_0 = m ((c : Thread nD τ).loc main_arg0) := by
  funext y
  refine congrArg (m ((c : Thread nD τ).loc main_arg0)) (funext fun a => Fin.ext ?_)
  exact Pipeline.Window.rect_emb_val_of_index_zero win0_0 t0_0 a rfl y
theorem iblk1 (c : Dev nD) : iblk m c 1 t0_0 = m ((c : Thread nD τ).loc main_arg1) := by
  funext y
  refine congrArg (m ((c : Thread nD τ).loc main_arg1)) (funext fun a => Fin.ext ?_)
  exact Pipeline.Window.rect_emb_val_of_index_zero win0_1 t0_0 a rfl y
theorem iblk2 (c : Dev nD) (y : S1.Idx) : iblk m c 2 t0_0 y = m ((c : Thread nD τ).loc main_arg2) only :=
  congrArg (m ((c : Thread nD τ).loc main_arg2)) (eq_only _ _)
theorem iblk3 (c : Dev nD) (y : S1.Idx) : iblk m c 3 t0_0 y = m ((c : Thread nD τ).loc main_arg3) only :=
  congrArg (m ((c : Thread nD τ).loc main_arg3)) (eq_only _ _)

theorem outs_eq (c : Dev nD) : outsAt0 m c t0_0 = value m c := by
  unfold outsAt0 out0_A_4
  rw [View.read_writes_junk_eq_canon]
  unfold kernelRun0_A
  dsimp only
  rw [View.canon_unit_zero zeros2]
  have h0 : ∀ X : Vec F S4096x4096 .fp8e4m3, View.readAt (Elt F) (View.whole cc0_stg0_0)
      (Rect.unit ![0, 0] ![4096, 4096] inb_S4096x4096_S4096x4096_0_0).toLoadRect ((hs0_0 t0_0).unread X) = X := fun X =>
    (funext fun y => (hs0_0 t0_0).readAt_unread X _ y).trans (View.ld_unit_zero (Val := Elt F) zeros2 _ X)
  have h1 : ∀ X : Vec F S4096x8192 .f32, View.readAt (Elt F) (View.whole cc0_stg1_0)
      (Rect.unit ![0, 0] ![4096, 8192] inb_S4096x8192_S4096x8192_0_0).toLoadRect ((hs0_1 t0_0).unread X) = X := fun X =>
    (funext fun y => (hs0_1 t0_0).readAt_unread X _ y).trans (View.ld_unit_zero (Val := Elt F) zeros2 _ X)
  have h2 : kernelRun0_A.sl.r c (ms0_2 t0_0) (hs0_2 t0_0) (iblk m c 2 t0_0) = m ((c : Thread nD τ).loc main_arg2) only :=
    ((hs0_2 t0_0).readAt_unread _ _ _).trans (iblk2 m c _)
  have h3 : kernelRun0_A.sl.r_1 c (ms0_3 t0_0) (hs0_3 t0_0) (iblk m c 3 t0_0) = m ((c : Thread nD τ).loc main_arg3) only :=
    ((hs0_3 t0_0).readAt_unread _ _ _).trans (iblk3 m c _)
  rw [h2, h3]
  exact congrArg₂ (fun x w => k0_pay1 x w _ _) ((h0 _).trans (iblk0 m c)) ((h1 _).trans (iblk1 m c))

theorem final (c : Dev nD) : (dats m 0 c).arrAt 4 cfg0.N = value m c := by
  refine (dats m 0 c).arrAt_eq_of_after_last (4 : Fin 5) t0_0 (by decide +kernel) (value m c) fun j => ?_
  rw [after0_4, outs_eq]
  rfl

end Cert.ReferenceIdeal.Whole

end
-- ==== Proof.Value.lean ====
/-
The value: over the extended reals, device `c`'s result is column block `c` of the reference's.
-/
module

public import proofs.«01_k».proof.Defs
public import proofs.«01_k».proof.Proof.Reference
public import proofs.«01_k».proof.Proof.KernelIdeal.Output
public import Idealize.ShloMosaic.Lib.MatmulPlain

@[expose] public section

noncomputable section

namespace Cert.Value

open Idealize.ShloMosaic Idealize.ShloMosaic.TcCoe
open Cert.KernelIdeal (S256x4096 S4096x512 S256x512 S4096x8192)
open Cert.KernelIdeal.Run
open scoped BigOperators

/-- One element of a scaled product clipped below at zero, of a row and a column. -/
def dotRelu (x w : Fin 4096 → EReal) (s : EReal) : EReal := max ((∑ k, x k * w k) * s) 0

theorem zero_eq : Ideal.ofBits .f32 0x00000000#32 = 0 := Ideal.ofBits_zero_f32

/-- A device's product for one column block, at an element. -/
theorem blk_apply (s : Ideal .f32) (x : FVec Ideal S256x4096 .bf16) (w : FVec Ideal S4096x512 .f32) (r : Fin 256) (q : Fin 512) :
    blk s x w (ValueIdx.ix2 r q) = dotRelu (fun k => x (ValueIdx.ix2 r k)) (fun k => w (ValueIdx.ix2 k q)) s := by
  have h := Ideal.matmul_plain_apply (M := 256) (K := 4096) (N := 512) none x (truncf .bf16 w Cert.KernelIdeal.Gen.bitsLt_bf16_f32)
    (constant S256x512 .f32 0x00000000#32) r q
  refine (congrArg₂ (fun a b : EReal => max (a * s) b) (h.trans ?_) zero_eq)
  show Ideal.ofBits .f32 0x00000000#32 + _ = _
  rw [zero_eq, zero_add]
  rfl

/-- The reference's result, at an element. -/
theorem ref_apply (x : Vec Ideal Cert.ReferenceIdeal.S4096x4096 .fp8e4m3) (w : Vec Ideal S4096x8192 .f32) (a b : Ideal .f32) (r : Fin 4096) (q : Fin 8192) :
    Cert.ReferenceIdeal.Gen.k0_pay1 x w a b (ValueIdx.ix2 r q) = dotRelu (fun k => x (ValueIdx.ix2 r k)) (fun k => w (ValueIdx.ix2 k q)) (a * b) := by
  have h := Ideal.matmul_plain_apply (M := 4096) (K := 4096) (N := 8192) none (φ₁ := .f32) (φ₂ := .f32) x w
    (constant S4096x8192 .f32 0x00000000#32) r q
  refine (congrArg₂ (fun c d : EReal => max (c * (a * b)) d) (h.trans ?_) zero_eq)
  show Ideal.ofBits .f32 0x00000000#32 + _ = _
  rw [zero_eq, zero_add]

variable (m : (ℓ : Loc Cert.KernelIdeal.nD Cert.KernelIdeal.τ Cert.KernelIdeal.sig) → Buf (Elt Ideal) ℓ)

/-- Every row block of a device's result is its source's product for that device: narrowing to bf16 and back is the
    identity here. -/
theorem part_eq (c s : Dev Cert.KernelIdeal.nD) : part m c s = yv m s ((c.val + (16 - s.val)) % 16) := by
  unfold part
  by_cases h : s = c
  · subst h
    have hs : s.val < 16 := s.isLt
    rw [if_pos rfl, show (s.val + (16 - s.val)) % 16 = 0 by omega]
  · rw [if_neg h]; rfl

/-- The operands of that product, element by element. -/
theorem xb_apply (s : Dev Cert.KernelIdeal.nD) (r : Fin 256) (k : Fin 4096) :
    xb m s (ValueIdx.ix2 r k) = m ((s.tc : Thread Cert.KernelIdeal.nD Cert.KernelIdeal.τ).loc Cert.KernelIdeal.main_arg0) (ValueIdx.ix2 r k) := by
  unfold xb Cert.KernelIdeal.Gen.k0_pay2
  rw [shapeCast_self, shapeCast_self]
  refine congrArg (m ((s.tc : Thread Cert.KernelIdeal.nD Cert.KernelIdeal.τ).loc Cert.KernelIdeal.main_arg0)) (funext fun a => Fin.ext ?_)
  exact Pipeline.Window.rect_emb_val_of_index_zero Cert.KernelIdeal.win0_0 (0 : Fin 1) a rfl (ValueIdx.ix2 r k)

theorem wc_apply (s c : Dev Cert.KernelIdeal.nD) (k : Fin 4096) (q : Fin 512) (h : 512 * c.val + q.val < 8192) :
    wc m s ((c.val + (16 - s.val)) % 16) (ValueIdx.ix2 k q)
      = m ((s.tc : Thread Cert.KernelIdeal.nD Cert.KernelIdeal.τ).loc Cert.KernelIdeal.main_arg1) (ValueIdx.ix2 k ⟨512 * c.val + q.val, h⟩) := by
  have hs : s.val < 16 := s.isLt
  have hc : c.val < 16 := c.isLt
  refine congrArg (m ((s.tc : Thread Cert.KernelIdeal.nD Cert.KernelIdeal.τ).loc Cert.KernelIdeal.main_arg1)) (funext fun a => Fin.ext ?_)
  have e := Cert.KernelIdeal.Gen.k0_off1_eq s (f16 ((c.val + (16 - s.val)) % 16))
  show Cert.KernelIdeal.k0_off1 s _ a + 1 * (ValueIdx.ix2 k q a).val = _
  rw [e]
  fin_cases a
  · show 0 + 1 * k.val = k.val
    omega
  · show 512 * ((s.val + (c.val + (16 - s.val)) % 16 % 16) % 16) + 1 * q.val = 512 * c.val + q.val
    omega

/-- One number, of an array of one element. -/
def first (v : Cert.KernelIdeal.S1.Idx → EReal) : EReal := v Cert.ReferenceIdeal.Whole.only

theorem sc_eq (s : Dev Cert.KernelIdeal.nD) :
    sc m s = first (m ((s.tc : Thread Cert.KernelIdeal.nD Cert.KernelIdeal.τ).loc Cert.KernelIdeal.main_arg2))
      * first (m ((s.tc : Thread Cert.KernelIdeal.nD Cert.KernelIdeal.τ).loc Cert.KernelIdeal.main_arg3)) :=
  congrArg₂ (fun a b : EReal => a * b)
    (congrArg (m ((s.tc : Thread Cert.KernelIdeal.nD Cert.KernelIdeal.τ).loc Cert.KernelIdeal.main_arg2)) (Cert.ReferenceIdeal.Whole.eq_only _ _))
    (congrArg (m ((s.tc : Thread Cert.KernelIdeal.nD Cert.KernelIdeal.τ).loc Cert.KernelIdeal.main_arg3)) (Cert.ReferenceIdeal.Whole.eq_only _ _))

variable (m' : (ℓ : Loc Cert.ReferenceIdeal.nD Cert.ReferenceIdeal.τ Cert.ReferenceIdeal.sig) → Buf (Elt Ideal) ℓ)

/-- Where every device holds its rows of the reference's `x` and the whole of its other arguments, device `c`'s result
    is column block `c` of the reference's. -/
theorem result_eq (c : Dev Cert.KernelIdeal.nD)
    (h : ∀ s : Dev Cert.KernelIdeal.nD,
      m ((s.tc : Thread Cert.KernelIdeal.nD Cert.KernelIdeal.τ).loc Cert.KernelIdeal.main_arg0) = Layout.block ⟨2, ![256, 4096]⟩ ⟨2, ![4096, 4096]⟩ 0 16 s (m' (((0 : Dev Cert.ReferenceIdeal.nD).tc : Thread Cert.ReferenceIdeal.nD Cert.ReferenceIdeal.τ).loc Cert.ReferenceIdeal.main_arg0))
      ∧ m ((s.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((s.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((s.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) :
    outAt m c = Layout.block ⟨2, ![4096, 512]⟩ ⟨2, ![4096, 8192]⟩ 1 16 c (Cert.ReferenceIdeal.Whole.value m' 0) := by
  funext i
  have hc : c.val < 16 := c.isLt
  have hr : (i 0).val < 4096 := (i 0).isLt
  have hq : (i 1).val < 512 := (i 1).isLt
  obtain ⟨h0, h1, h2, h3⟩ := h (src i)
  have hcol : 512 * c.val + (i 1).val < 8192 := by omega
  have hj : (Layout.Tiles.idx (S := ⟨2, ![4096, 512]⟩) (T := ⟨2, ![4096, 8192]⟩) (a := 1) (k := 16) (by decide) c i)
      = ValueIdx.ix2 ⟨(i 0).val, hr⟩ ⟨512 * c.val + (i 1).val, hcol⟩ := by
    funext a; apply Fin.ext
    fin_cases a
    · rfl
    · show c.val * 512 + (i 1).val = 512 * c.val + (i 1).val
      omega
  have hp : place i = ValueIdx.ix2 ⟨(i 0).val % 256, Nat.mod_lt _ (by decide)⟩ ⟨(i 1).val, hq⟩ := by
    funext a; apply Fin.ext
    fin_cases a <;> rfl
  rw [Layout.block_apply, hj, outAt, part_eq, hp, yv, blk_apply, Cert.ReferenceIdeal.Whole.value, ref_apply, sc_eq, h2, h3]
  congr 1
  · funext k
    rw [xb_apply, h0, Layout.block_apply]
    congr 1
    funext a; apply Fin.ext
    fin_cases a
    · show (i 0).val / 256 * 256 + (i 0).val % 256 = (i 0).val
      omega
    · rfl
  · funext k
    exact (wc_apply m (src i) c k ⟨(i 1).val, hq⟩ hcol).trans (congrFun h1 _)

end Cert.Value

end
-- ==== Proof.lean ====
/-
The certificate: the frames of the kernel, of its idealization and of the reference, and the value of the mesh.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Kernel.Launch
public import proofs.«01_k».proof.Proof.KernelIdeal.Launch
public import proofs.«01_k».proof.Proof.Value
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    fun m ρ _ => (θ_run _ _ _).mono (fun _ h => ⟨fun c => (h.1 c).2, h.2⟩) (Cert.Kernel.Run.run_mesh m ρ),
    fun m ρ _ => (θ_run _ _ _).mono (fun _ h => ⟨fun c => (h.1 c).2, h.2⟩) (Cert.KernelIdeal.Run.run_mesh m ρ),
    fun m ρ _ => Cert.ReferenceIdeal.Gen.frame m ρ,
    trivial,
    fun m ρ m' ρ' _ h => ⟨Cert.ReferenceIdeal.Whole.value m' 0,
      (θ_run _ _ _).mono (fun _ hr c => ⟨((hr.1 c).1).trans (Cert.Value.result_eq m m' c h), (hr.1 c).2⟩) (Cert.KernelIdeal.Run.run_mesh m ρ),
      (θ_run _ _ _).mono (fun _ hr => ⟨((hr 0).1).trans (Cert.ReferenceIdeal.Whole.final m' 0), (hr 0).2⟩) (Cert.ReferenceIdeal.Value.run_blocks m' ρ')⟩⟩

end Cert.Proof

end
